-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_guard_idle [hKernelIdeal : Cert.KernelIdeal.Facts] [hReferenceIdeal : Cert.ReferenceIdeal.Facts] [hOn_guard_idle : Cert.On_guard_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 64]⟩ : Shape).Idx, (Layout.block ⟨2, ![1024, 64]⟩ ⟨2, ![1024, 1024]⟩ 1 16 c ((Cert.On_guard_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 64]⟩ : Shape).Idx → _) i = 1#1 → r.2.mem ((c.tc : Thread Cert.KernelIdeal.nD Cert.KernelIdeal.τ).loc Cert.KernelIdeal.main_v56) i = (Layout.block ⟨2, ![1024, 64]⟩ ⟨2, ![1024, 1024]⟩ 1 16 c v0 : (⟨2, ![1024, 64]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_guard_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_guard_idle : Cert.On_guard_idle.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_guard_idle (hKernelIdeal := hKernelIdeal) (hReferenceIdeal := hReferenceIdeal) (hOn_guard_idle := hOn_guard_idle)
    ∧ algebraic_KernelIdeal_SiluIdeal (hKernelIdeal := hKernelIdeal) (hSiluIdeal := hSiluIdeal)
-- ==== On_guard_idle.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S64x1024 : Shape := ⟨2, ![64, 1024]⟩
abbrev S1024x64 : Shape := ⟨2, ![1024, 64]⟩
abbrev S16 : Shape := ⟨1, ![16]⟩
abbrev S_ : Shape := ⟨0, ![]⟩
abbrev S1 : Shape := ⟨1, ![1]⟩
abbrev S2 : Shape := ⟨1, ![2]⟩
abbrev S8 : Shape := ⟨1, ![8]⟩
abbrev S8x1 : Shape := ⟨2, ![8, 1]⟩
abbrev S7 : Shape := ⟨1, ![7]⟩
abbrev S7x1 : Shape := ⟨2, ![7, 1]⟩
abbrev S8x64x1024 : Shape := ⟨3, ![8, 64, 1024]⟩
abbrev S7x64x1024 : Shape := ⟨3, ![7, 64, 1024]⟩
abbrev S8x2 : Shape := ⟨2, ![8, 2]⟩
abbrev S7x2 : Shape := ⟨2, ![7, 2]⟩
abbrev S1x1 : Shape := ⟨2, ![1, 1]⟩
abbrev S1x64x1024 : Shape := ⟨3, ![1, 64, 1024]⟩
abbrev S32x1024 : Shape := ⟨2, ![32, 1024]⟩
abbrev S64x64 : Shape := ⟨2, ![64, 64]⟩

abbrev nBuf : Space → Nat
  | .hbm => 82
  | .vmem => 5
  | .smem => 3
  | _ => 0

abbrev bufTy : (tb : Table) → Fin (tcTables nBuf tb) → BufTy
  | .hbm, ⟨0, _⟩ => ⟨S64x1024, .f32⟩
  | .hbm, ⟨1, _⟩ => ⟨S1024x64, .f32⟩
  | .hbm, ⟨2, _⟩ => ⟨S16, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S2, .i32⟩
  | .hbm, ⟨44, _⟩ => ⟨S_, .i32⟩
  | .hbm, ⟨45, _⟩ => ⟨S_, .i32⟩
  | .hbm, ⟨46, _⟩ => ⟨S8, .i32⟩
  | .hbm, ⟨47, _⟩ => ⟨S8, .i32⟩
  | .hbm, ⟨48, _⟩ => ⟨S8, .i32⟩
  | .hbm, ⟨49, _⟩ => ⟨S_, .i32⟩
  | .hbm, ⟨50, _⟩ => ⟨S8, .i32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S_, .i32⟩
  | .hbm, ⟨56, _⟩ => ⟨S8, .i32⟩
  | .hbm, ⟨57, _⟩ => ⟨S8, .i1⟩
  | .hbm, ⟨58, _⟩ => ⟨S_, .i32⟩
  | .hbm, ⟨59, _⟩ => ⟨S8, .i32⟩
  | .hbm, ⟨60, _⟩ => ⟨S8, .i32⟩
  | .hbm, ⟨61, _⟩ => ⟨S8, .i32⟩
  | .hbm, ⟨62, _⟩ => ⟨S8x1, .i32⟩
  | .hbm, ⟨63, _⟩ => ⟨S8, .i32⟩
  | .hbm, ⟨64, _⟩ => ⟨S_, .i32⟩
  | .hbm, ⟨65, _⟩ => ⟨S_, .i32⟩
  | .hbm, ⟨66, _⟩ => ⟨S7, .i32⟩
  | .hbm, ⟨67, _⟩ => ⟨S7, .i32⟩
  | .hbm, ⟨68, _⟩ => ⟨S7, .i32⟩
  | .hbm, ⟨69, _⟩ => ⟨S_, .i32⟩
  | .hbm, ⟨70, _⟩ => ⟨S7, .i32⟩
  | .hbm, ⟨71, _⟩ => ⟨S7, .i32⟩
  | .hbm, ⟨72, _⟩ => ⟨S_, .i32⟩
  | .hbm, ⟨73, _⟩ => ⟨S7, .i32⟩
  | .hbm, ⟨74, _⟩ => ⟨S7, .i1⟩
  | .hbm, ⟨75, _⟩ => ⟨S_, .i32⟩
  | .hbm, ⟨76, _⟩ => ⟨S7, .i32⟩
  | .hbm, ⟨77, _⟩ => ⟨S7, .i32⟩
  | .hbm, ⟨78, _⟩ => ⟨S7, .i32⟩
  | .hbm, ⟨79, _⟩ => ⟨S7x1, .i32⟩
  | .hbm, ⟨80, _⟩ => ⟨S7, .i32⟩
  | .hbm, ⟨81, _⟩ => ⟨S1024x64, .f32⟩
  | .local _ .vmem, ⟨0, _⟩ => ⟨S64x1024, .f32⟩
  | .local _ .vmem, ⟨1, _⟩ => ⟨S1024x64, .f32⟩
  | .local _ .vmem, ⟨2, _⟩ => ⟨S1024x64, .f32⟩
  | .local _ .vmem, ⟨3, _⟩ => ⟨S8x64x1024, .f32⟩
  | .local _ .vmem, ⟨4, _⟩ => ⟨S7x64x1024, .f32⟩
  | .local _ .smem, ⟨0, _⟩ => ⟨S2, .i32⟩
  | .local _ .smem, ⟨1, _⟩ => ⟨S8, .i32⟩
  | .local _ .smem, ⟨2, _⟩ => ⟨S7, .i32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_c_8 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_c_11 : Ref sig .tc := ⟨.hbm, 32, rfl⟩
abbrev main_v19 : Ref sig .tc := ⟨.hbm, 33, rfl⟩
abbrev main_c_12 : Ref sig .tc := ⟨.hbm, 34, rfl⟩
abbrev main_v20 : Ref sig .tc := ⟨.hbm, 35, rfl⟩
abbrev main_c_13 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_14 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_15 : Ref sig .tc := ⟨.hbm, 49, rfl⟩
abbrev main_v32 : Ref sig .tc := ⟨.hbm, 50, rfl⟩
abbrev main_v33 : Ref sig .tc := ⟨.hbm, 51, rfl⟩
abbrev main_c_16 : Ref sig .tc := ⟨.hbm, 52, rfl⟩
abbrev main_v34 : Ref sig .tc := ⟨.hbm, 53, rfl⟩
abbrev main_v35 : Ref sig .tc := ⟨.hbm, 54, rfl⟩
abbrev main_c_17 : Ref sig .tc := ⟨.hbm, 55, rfl⟩
abbrev main_v36 : Ref sig .tc := ⟨.hbm, 56, rfl⟩
abbrev main_v37 : Ref sig .tc := ⟨.hbm, 57, rfl⟩
abbrev main_c_18 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_19 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_20 : Ref sig .tc := ⟨.hbm, 69, rfl⟩
abbrev main_v47 : Ref sig .tc := ⟨.hbm, 70, rfl⟩
abbrev main_v48 : Ref sig .tc := ⟨.hbm, 71, rfl⟩
abbrev main_c_21 : Ref sig .tc := ⟨.hbm, 72, rfl⟩
abbrev main_v49 : Ref sig .tc := ⟨.hbm, 73, rfl⟩
abbrev main_v50 : Ref sig .tc := ⟨.hbm, 74, rfl⟩
abbrev main_c_22 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v6 : BitVec 32 := Scalar.muli v3 c1_i32_1
  let v7 : BitVec 32 := Scalar.addi c0_i32 v6
  v7.toNat

def k0_dev2 (v4 : BitVec 32) : Nat :=
  let c0_i32_4 : BitVec 32 := 0#32
  let c1_i32_3 : BitVec 32 := 1#32
  let v8 : BitVec 32 := Scalar.muli v4 c1_i32_3
  let v9 : BitVec 32 := Scalar.addi c0_i32_4 v8
  v9.toNat

def k0_dev3 (v4 : BitVec 32) : Nat :=
  let c0_i32_11 : BitVec 32 := 0#32
  let c1_i32_10 : BitVec 32 := 1#32
  let v10 : BitVec 32 := Scalar.muli v4 c1_i32_10
  let v11 : BitVec 32 := Scalar.addi c0_i32_11 v10
  v11.toNat
def k0_dev4 (v3 : BitVec 32) : Nat :=
  let c0_i32_24 : BitVec 32 := 0#32
  let c1_i32_23 : BitVec 32 := 1#32
  let v20 : BitVec 32 := Scalar.muli v3 c1_i32_23
  let v21 : BitVec 32 := Scalar.addi c0_i32_24 v20
  v21.toNat
def k0_dev5 (v4 : BitVec 32) : Nat :=
  let c0_i32_37 : BitVec 32 := 0#32
  let c1_i32_36 : BitVec 32 := 1#32
  let v30 : BitVec 32 := Scalar.muli v4 c1_i32_36
  let v31 : BitVec 32 := Scalar.addi c0_i32_37 v30
  v31.toNat
def k0_dev6 (v3 : BitVec 32) : Nat :=
  let c0_i32_49 : BitVec 32 := 0#32
  let c1_i32_48 : BitVec 32 := 1#32
  let v40 : BitVec 32 := Scalar.muli v3 c1_i32_48
  let v41 : BitVec 32 := Scalar.addi c0_i32_49 v40
  v41.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v57 : BitVec 32 := Scalar.muli v2 c64_i32
  let v58 : Index := Scalar.indexCast v57
  let c0_60 : Index := 0#32
  ![v58.toNat, 0]
def k0_dev7 (v4 : BitVec 32) : Nat :=
  let c0_i32_81 : BitVec 32 := 0#32
  let c1_i32_80 : BitVec 32 := 1#32
  let v68 : BitVec 32 := Scalar.muli v4 c1_i32_80
  let v69 : BitVec 32 := Scalar.addi c0_i32_81 v68
  v69.toNat
def k0_dev8 (v4 : BitVec 32) : Nat :=
  let c0_i32_110 : BitVec 32 := 0#32
  let c1_i32_109 : BitVec 32 := 1#32
  let v88 : BitVec 32 := Scalar.muli v4 c1_i32_109
  let v89 : BitVec 32 := Scalar.addi c0_i32_110 v88
  v89.toNat
def k0_dev9 (v3 : BitVec 32) : Nat :=
  let c0_i32_139 : BitVec 32 := 0#32
  let c1_i32_138 : BitVec 32 := 1#32
  let v108 : BitVec 32 := Scalar.muli v3 c1_i32_138
  let v109 : BitVec 32 := Scalar.addi c0_i32_139 v108
  v109.toNat
def k0_dev10 (v3 : BitVec 32) : Nat :=
  let c0_i32_168 : BitVec 32 := 0#32
  let c1_i32_167 : BitVec 32 := 1#32
  let v128 : BitVec 32 := Scalar.muli v3 c1_i32_167
  let v129 : BitVec 32 := Scalar.addi c0_i32_168 v128
  v129.toNat
def k0_off2 (v147 : BitVec 32) : Fin 2 → Nat :=
  let c64_i32_184 : BitVec 32 := 64#32
  let v148 : BitVec 32 := Scalar.muli v147 c64_i32_184
  let v149 : Index := Scalar.indexCast v148
  let c0_185 : Index := 0#32
  ![v149.toNat, 0]

def k0_chk3 (v147 : BitVec 32) : Prop :=
  (∀ a, (k0_off2 v147) a + S64x64.size a ≤ S1024x64.size a)
theorem k0_off2_inb : ∀ (v147 : BitVec 32) (k0_hw3 : k0_chk3 v147), ∀ a, (k0_off2 v147) a + S64x64.size a ≤ S1024x64.size a := fun v147 k0_hw3 => k0_hw3

def k0_off3 (v158 : BitVec 32) : Fin 2 → Nat :=
  let c64_i32_193 : BitVec 32 := 64#32
  let v159 : BitVec 32 := Scalar.muli v158 c64_i32_193
  let v160 : Index := Scalar.indexCast v159
  let c0_194 : Index := 0#32
  ![v160.toNat, 0]

def k0_chk4 (v158 : BitVec 32) : Prop :=
  (∀ a, (k0_off3 v158) a + S64x64.size a ≤ S1024x64.size a)
theorem k0_off3_inb : ∀ (v158 : BitVec 32) (k0_hw4 : k0_chk4 v158), ∀ a, (k0_off3 v158) a + S64x64.size a ≤ S1024x64.size a := fun v158 k0_hw4 => k0_hw4

def k0_dev11 (v4 : BitVec 32) : Nat :=
  let c0_i32_218 : BitVec 32 := 0#32
  let c1_i32_217 : BitVec 32 := 1#32
  let v172 : BitVec 32 := Scalar.muli v4 c1_i32_217
  let v173 : BitVec 32 := Scalar.addi c0_i32_218 v172
  v173.toNat
def k0_dev12 (v4 : BitVec 32) : Nat :=
  let c0_i32_250 : BitVec 32 := 0#32
  let c1_i32_249 : BitVec 32 := 1#32
  let v194 : BitVec 32 := Scalar.muli v4 c1_i32_249
  let v195 : BitVec 32 := Scalar.addi c0_i32_250 v194
  v195.toNat
def k0_dev13 (v3 : BitVec 32) : Nat :=
  let c0_i32_282 : BitVec 32 := 0#32
  let c1_i32_281 : BitVec 32 := 1#32
  let v216 : BitVec 32 := Scalar.muli v3 c1_i32_281
  let v217 : BitVec 32 := Scalar.addi c0_i32_282 v216
  v217.toNat
def k0_dev14 (v3 : BitVec 32) : Nat :=
  let c0_i32_314 : BitVec 32 := 0#32
  let c1_i32_313 : BitVec 32 := 1#32
  let v238 : BitVec 32 := Scalar.muli v3 c1_i32_313
  let v239 : BitVec 32 := Scalar.addi c0_i32_314 v238
  v239.toNat
def k0_off4 (v257 : BitVec 32) : Fin 2 → Nat :=
  let c64_i32_330 : BitVec 32 := 64#32
  let v258 : BitVec 32 := Scalar.muli v257 c64_i32_330
  let v259 : Index := Scalar.indexCast v258
  let c0_331 : Index := 0#32
  ![v259.toNat, 0]

def k0_chk5 (v257 : BitVec 32) : Prop :=
  (∀ a, (k0_off4 v257) a + S64x64.size a ≤ S1024x64.size a)
theorem k0_off4_inb : ∀ (v257 : BitVec 32) (k0_hw5 : k0_chk5 v257), ∀ a, (k0_off4 v257) a + S64x64.size a ≤ S1024x64.size a := fun v257 k0_hw5 => k0_hw5

def k0_off5 (v268 : BitVec 32) : Fin 2 → Nat :=
  let c64_i32_339 : BitVec 32 := 64#32
  let v269 : BitVec 32 := Scalar.muli v268 c64_i32_339
  let v270 : Index := Scalar.indexCast v269
  let c0_340 : Index := 0#32
  ![v270.toNat, 0]

def k0_chk6 (v268 : BitVec 32) : Prop :=
  (∀ a, (k0_off5 v268) a + S64x64.size a ≤ S1024x64.size a)
theorem k0_off5_inb : ∀ (v268 : BitVec 32) (k0_hw6 : k0_chk6 v268), ∀ a, (k0_off5 v268) a + S64x64.size a ≤ S1024x64.size a := fun v268 k0_hw6 => k0_hw6

def k0_dev15 (v4 : BitVec 32) : Nat :=
  let c0_i32_363 : BitVec 32 := 0#32
  let c1_i32_362 : BitVec 32 := 1#32
  let v282 : BitVec 32 := Scalar.muli v4 c1_i32_362
  let v283 : BitVec 32 := Scalar.addi c0_i32_363 v282
  v283.toNat
def k0_dev16 (v4 : BitVec 32) : Nat :=
  let c0_i32_395 : BitVec 32 := 0#32
  let c1_i32_394 : BitVec 32 := 1#32
  let v304 : BitVec 32 := Scalar.muli v4 c1_i32_394
  let v305 : BitVec 32 := Scalar.addi c0_i32_395 v304
  v305.toNat
def k0_dev17 (v3 : BitVec 32) : Nat :=
  let c0_i32_427 : BitVec 32 := 0#32
  let c1_i32_426 : BitVec 32 := 1#32
  let v326 : BitVec 32 := Scalar.muli v3 c1_i32_426
  let v327 : BitVec 32 := Scalar.addi c0_i32_427 v326
  v327.toNat
def k0_dev18 (v3 : BitVec 32) : Nat :=
  let c0_i32_459 : BitVec 32 := 0#32
  let c1_i32_458 : BitVec 32 := 1#32
  let v348 : BitVec 32 := Scalar.muli v3 c1_i32_458
  let v349 : BitVec 32 := Scalar.addi c0_i32_459 v348
  v349.toNat
def k0_off6 (v367 : BitVec 32) : Fin 2 → Nat :=
  let c64_i32_474 : BitVec 32 := 64#32
  let v368 : BitVec 32 := Scalar.muli v367 c64_i32_474
  let v369 : Index := Scalar.indexCast v368
  let c0_475 : Index := 0#32
  ![v369.toNat, 0]

def k0_chk7 (v367 : BitVec 32) : Prop :=
  (∀ a, (k0_off6 v367) a + S64x64.size a ≤ S1024x64.size a)
theorem k0_off6_inb : ∀ (v367 : BitVec 32) (k0_hw7 : k0_chk7 v367), ∀ a, (k0_off6 v367) a + S64x64.size a ≤ S1024x64.size a := fun v367 k0_hw7 => k0_hw7

def k0_off7 (v378 : BitVec 32) : Fin 2 → Nat :=
  let c64_i32_483 : BitVec 32 := 64#32
  let v379 : BitVec 32 := Scalar.muli v378 c64_i32_483
  let v380 : Index := Scalar.indexCast v379
  let c0_484 : Index := 0#32
  ![v380.toNat, 0]

def k0_chk8 (v378 : BitVec 32) : Prop :=
  (∀ a, (k0_off7 v378) a + S64x64.size a ≤ S1024x64.size a)
theorem k0_off7_inb : ∀ (v378 : BitVec 32) (k0_hw8 : k0_chk8 v378), ∀ a, (k0_off7 v378) a + S64x64.size a ≤ S1024x64.size a := fun v378 k0_hw8 => k0_hw8

def k0_dev19 (v4 : BitVec 32) : Nat :=
  let c0_i32_507 : BitVec 32 := 0#32
  let c1_i32_506 : BitVec 32 := 1#32
  let v392 : BitVec 32 := Scalar.muli v4 c1_i32_506
  let v393 : BitVec 32 := Scalar.addi c0_i32_507 v392
  v393.toNat
def k0_dev20 (v4 : BitVec 32) : Nat :=
  let c0_i32_539 : BitVec 32 := 0#32
  let c1_i32_538 : BitVec 32 := 1#32
  let v414 : BitVec 32 := Scalar.muli v4 c1_i32_538
  let v415 : BitVec 32 := Scalar.addi c0_i32_539 v414
  v415.toNat
def k0_dev21 (v3 : BitVec 32) : Nat :=
  let c0_i32_571 : BitVec 32 := 0#32
  let c1_i32_570 : BitVec 32 := 1#32
  let v436 : BitVec 32 := Scalar.muli v3 c1_i32_570
  let v437 : BitVec 32 := Scalar.addi c0_i32_571 v436
  v437.toNat
def k0_dev22 (v3 : BitVec 32) : Nat :=
  let c0_i32_603 : BitVec 32 := 0#32
  let c1_i32_602 : BitVec 32 := 1#32
  let v458 : BitVec 32 := Scalar.muli v3 c1_i32_602
  let v459 : BitVec 32 := Scalar.addi c0_i32_603 v458
  v459.toNat
def k0_off8 (v477 : BitVec 32) : Fin 2 → Nat :=
  let c64_i32_618 : BitVec 32 := 64#32
  let v478 : BitVec 32 := Scalar.muli v477 c64_i32_618
  let v479 : Index := Scalar.indexCast v478
  let c0_619 : Index := 0#32
  ![v479.toNat, 0]

def k0_chk9 (v477 : BitVec 32) : Prop :=
  (∀ a, (k0_off8 v477) a + S64x64.size a ≤ S1024x64.size a)
theorem k0_off8_inb : ∀ (v477 : BitVec 32) (k0_hw9 : k0_chk9 v477), ∀ a, (k0_off8 v477) a + S64x64.size a ≤ S1024x64.size a := fun v477 k0_hw9 => k0_hw9

def k0_off9 (v488 : BitVec 32) : Fin 2 → Nat :=
  let c64_i32_627 : BitVec 32 := 64#32
  let v489 : BitVec 32 := Scalar.muli v488 c64_i32_627
  let v490 : Index := Scalar.indexCast v489
  let c0_628 : Index := 0#32
  ![v490.toNat, 0]

def k0_chk10 (v488 : BitVec 32) : Prop :=
  (∀ a, (k0_off9 v488) a + S64x64.size a ≤ S1024x64.size a)
theorem k0_off9_inb : ∀ (v488 : BitVec 32) (k0_hw10 : k0_chk10 v488), ∀ a, (k0_off9 v488) a + S64x64.size a ≤ S1024x64.size a := fun v488 k0_hw10 => k0_hw10

def k0_dev23 (v4 : BitVec 32) : Nat :=
  let c0_i32_651 : BitVec 32 := 0#32
  let c1_i32_650 : BitVec 32 := 1#32
  let v502 : BitVec 32 := Scalar.muli v4 c1_i32_650
  let v503 : BitVec 32 := Scalar.addi c0_i32_651 v502
  v503.toNat
def k0_dev24 (v4 : BitVec 32) : Nat :=
  let c0_i32_683 : BitVec 32 := 0#32
  let c1_i32_682 : BitVec 32 := 1#32
  let v524 : BitVec 32 := Scalar.muli v4 c1_i32_682
  let v525 : BitVec 32 := Scalar.addi c0_i32_683 v524
  v525.toNat
def k0_dev25 (v3 : BitVec 32) : Nat :=
  let c0_i32_715 : BitVec 32 := 0#32
  let c1_i32_714 : BitVec 32 := 1#32
  let v546 : BitVec 32 := Scalar.muli v3 c1_i32_714
  let v547 : BitVec 32 := Scalar.addi c0_i32_715 v546
  v547.toNat
def k0_dev26 (v3 : BitVec 32) : Nat :=
  let c0_i32_747 : BitVec 32 := 0#32
  let c1_i32_746 : BitVec 32 := 1#32
  let v568 : BitVec 32 := Scalar.muli v3 c1_i32_746
  let v569 : BitVec 32 := Scalar.addi c0_i32_747 v568
  v569.toNat
def k0_off10 (v587 : BitVec 32) : Fin 2 → Nat :=
  let c64_i32_762 : BitVec 32 := 64#32
  let v588 : BitVec 32 := Scalar.muli v587 c64_i32_762
  let v589 : Index := Scalar.indexCast v588
  let c0_763 : Index := 0#32
  ![v589.toNat, 0]

def k0_chk11 (v587 : BitVec 32) : Prop :=
  (∀ a, (k0_off10 v587) a + S64x64.size a ≤ S1024x64.size a)
theorem k0_off10_inb : ∀ (v587 : BitVec 32) (k0_hw11 : k0_chk11 v587), ∀ a, (k0_off10 v587) a + S64x64.size a ≤ S1024x64.size a := fun v587 k0_hw11 => k0_hw11

def k0_off11 (v598 : BitVec 32) : Fin 2 → Nat :=
  let c64_i32_771 : BitVec 32 := 64#32
  let v599 : BitVec 32 := Scalar.muli v598 c64_i32_771
  let v600 : Index := Scalar.indexCast v599
  let c0_772 : Index := 0#32
  ![v600.toNat, 0]

def k0_chk12 (v598 : BitVec 32) : Prop :=
  (∀ a, (k0_off11 v598) a + S64x64.size a ≤ S1024x64.size a)
theorem k0_off11_inb : ∀ (v598 : BitVec 32) (k0_hw12 : k0_chk12 v598), ∀ a, (k0_off11 v598) a + S64x64.size a ≤ S1024x64.size a := fun v598 k0_hw12 => k0_hw12

def k0_dev27 (v4 : BitVec 32) : Nat :=
  let c0_i32_795 : BitVec 32 := 0#32
  let c1_i32_794 : BitVec 32 := 1#32
  let v612 : BitVec 32 := Scalar.muli v4 c1_i32_794
  let v613 : BitVec 32 := Scalar.addi c0_i32_795 v612
  v613.toNat
def k0_dev28 (v4 : BitVec 32) : Nat :=
  let c0_i32_827 : BitVec 32 := 0#32
  let c1_i32_826 : BitVec 32 := 1#32
  let v634 : BitVec 32 := Scalar.muli v4 c1_i32_826
  let v635 : BitVec 32 := Scalar.addi c0_i32_827 v634
  v635.toNat
def k0_dev29 (v3 : BitVec 32) : Nat :=
  let c0_i32_859 : BitVec 32 := 0#32
  let c1_i32_858 : BitVec 32 := 1#32
  let v656 : BitVec 32 := Scalar.muli v3 c1_i32_858
  let v657 : BitVec 32 := Scalar.addi c0_i32_859 v656
  v657.toNat
def k0_dev30 (v3 : BitVec 32) : Nat :=
  let c0_i32_891 : BitVec 32 := 0#32
  let c1_i32_890 : BitVec 32 := 1#32
  let v678 : BitVec 32 := Scalar.muli v3 c1_i32_890
  let v679 : BitVec 32 := Scalar.addi c0_i32_891 v678
  v679.toNat

def k0_chk1 (v3 : BitVec 32) : Prop :=
  ((k0_dev1 v3) < nD) ∧
  ((k0_dev4 v3) < nD) ∧
  ((k0_dev6 v3) < nD) ∧
  ((k0_dev9 v3) < nD) ∧
  ((k0_dev10 v3) < nD) ∧
  ((k0_dev13 v3) < nD) ∧
  ((k0_dev14 v3) < nD) ∧
  ((k0_dev17 v3) < nD) ∧
  ((k0_dev18 v3) < nD) ∧
  ((k0_dev21 v3) < nD) ∧
  ((k0_dev22 v3) < nD) ∧
  ((k0_dev25 v3) < nD) ∧
  ((k0_dev26 v3) < nD) ∧
  ((k0_dev29 v3) < nD) ∧
  ((k0_dev30 v3) < nD)
theorem k0_dev1_lt : ∀ (v3 : BitVec 32) (k0_hw1 : k0_chk1 v3), (k0_dev1 v3) < nD := fun v3 k0_hw1 => k0_hw1.1
theorem k0_dev4_lt : ∀ (v3 : BitVec 32) (k0_hw1 : k0_chk1 v3), (k0_dev4 v3) < nD := fun v3 k0_hw1 => k0_hw1.2.1
theorem k0_dev6_lt : ∀ (v3 : BitVec 32) (k0_hw1 : k0_chk1 v3), (k0_dev6 v3) < nD := fun v3 k0_hw1 => k0_hw1.2.2.1
theorem k0_dev9_lt : ∀ (v3 : BitVec 32) (k0_hw1 : k0_chk1 v3), (k0_dev9 v3) < nD := fun v3 k0_hw1 => k0_hw1.2.2.2.1
theorem k0_dev10_lt : ∀ (v3 : BitVec 32) (k0_hw1 : k0_chk1 v3), (k0_dev10 v3) < nD := fun v3 k0_hw1 => k0_hw1.2.2.2.2.1
theorem k0_dev13_lt : ∀ (v3 : BitVec 32) (k0_hw1 : k0_chk1 v3), (k0_dev13 v3) < nD := fun v3 k0_hw1 => k0_hw1.2.2.2.2.2.1
theorem k0_dev14_lt : ∀ (v3 : BitVec 32) (k0_hw1 : k0_chk1 v3), (k0_dev14 v3) < nD := fun v3 k0_hw1 => k0_hw1.2.2.2.2.2.2.1
theorem k0_dev17_lt : ∀ (v3 : BitVec 32) (k0_hw1 : k0_chk1 v3), (k0_dev17 v3) < nD := fun v3 k0_hw1 => k0_hw1.2.2.2.2.2.2.2.1
theorem k0_dev18_lt : ∀ (v3 : BitVec 32) (k0_hw1 : k0_chk1 v3), (k0_dev18 v3) < nD := fun v3 k0_hw1 => k0_hw1.2.2.2.2.2.2.2.2.1
theorem k0_dev21_lt : ∀ (v3 : BitVec 32) (k0_hw1 : k0_chk1 v3), (k0_dev21 v3) < nD := fun v3 k0_hw1 => k0_hw1.2.2.2.2.2.2.2.2.2.1
theorem k0_dev22_lt : ∀ (v3 : BitVec 32) (k0_hw1 : k0_chk1 v3), (k0_dev22 v3) < nD := fun v3 k0_hw1 => k0_hw1.2.2.2.2.2.2.2.2.2.2.1
theorem k0_dev25_lt : ∀ (v3 : BitVec 32) (k0_hw1 : k0_chk1 v3), (k0_dev25 v3) < nD := fun v3 k0_hw1 => k0_hw1.2.2.2.2.2.2.2.2.2.2.2.1
theorem k0_dev26_lt : ∀ (v3 : BitVec 32) (k0_hw1 : k0_chk1 v3), (k0_dev26 v3) < nD := fun v3 k0_hw1 => k0_hw1.2.2.2.2.2.2.2.2.2.2.2.2.1
theorem k0_dev29_lt : ∀ (v3 : BitVec 32) (k0_hw1 : k0_chk1 v3), (k0_dev29 v3) < nD := fun v3 k0_hw1 => k0_hw1.2.2.2.2.2.2.2.2.2.2.2.2.2.1
theorem k0_dev30_lt : ∀ (v3 : BitVec 32) (k0_hw1 : k0_chk1 v3), (k0_dev30 v3) < nD := fun v3 k0_hw1 => k0_hw1.2.2.2.2.2.2.2.2.2.2.2.2.2.2

def k0_off12 (v697 : BitVec 32) : Fin 2 → Nat :=
  let c64_i32_906 : BitVec 32 := 64#32
  let v698 : BitVec 32 := Scalar.muli v697 c64_i32_906
  let v699 : Index := Scalar.indexCast v698
  let c0_907 : Index := 0#32
  ![v699.toNat, 0]

def k0_chk13 (v697 : BitVec 32) : Prop :=
  (∀ a, (k0_off12 v697) a + S64x64.size a ≤ S1024x64.size a)
theorem k0_off12_inb : ∀ (v697 : BitVec 32) (k0_hw13 : k0_chk13 v697), ∀ a, (k0_off12 v697) a + S64x64.size a ≤ S1024x64.size a := fun v697 k0_hw13 => k0_hw13

def k0_off13 (v708 : BitVec 32) : Fin 2 → Nat :=
  let c64_i32_915 : BitVec 32 := 64#32
  let v709 : BitVec 32 := Scalar.muli v708 c64_i32_915
  let v710 : Index := Scalar.indexCast v709
  let c0_916 : Index := 0#32
  ![v710.toNat, 0]

def k0_chk14 (v708 : BitVec 32) : Prop :=
  (∀ a, (k0_off13 v708) a + S64x64.size a ≤ S1024x64.size a)
theorem k0_off13_inb : ∀ (v708 : BitVec 32) (k0_hw14 : k0_chk14 v708), ∀ a, (k0_off13 v708) a + S64x64.size a ≤ S1024x64.size a := fun v708 k0_hw14 => k0_hw14

def k0_dev31 (v4 : BitVec 32) : Nat :=
  let c0_i32_939 : BitVec 32 := 0#32
  let c1_i32_938 : BitVec 32 := 1#32
  let v722 : BitVec 32 := Scalar.muli v4 c1_i32_938
  let v723 : BitVec 32 := Scalar.addi c0_i32_939 v722
  v723.toNat
def k0_dev32 (v4 : BitVec 32) : Nat :=
  let c0_i32_971 : BitVec 32 := 0#32
  let c1_i32_970 : BitVec 32 := 1#32
  let v744 : BitVec 32 := Scalar.muli v4 c1_i32_970
  let v745 : BitVec 32 := Scalar.addi c0_i32_971 v744
  v745.toNat

def k0_chk2 (v4 : BitVec 32) : Prop :=
  ((k0_dev2 v4) < nD) ∧
  ((k0_dev3 v4) < nD) ∧
  ((k0_dev5 v4) < nD) ∧
  ((k0_dev7 v4) < nD) ∧
  ((k0_dev8 v4) < nD) ∧
  ((k0_dev11 v4) < nD) ∧
  ((k0_dev12 v4) < nD) ∧
  ((k0_dev15 v4) < nD) ∧
  ((k0_dev16 v4) < nD) ∧
  ((k0_dev19 v4) < nD) ∧
  ((k0_dev20 v4) < nD) ∧
  ((k0_dev23 v4) < nD) ∧
  ((k0_dev24 v4) < nD) ∧
  ((k0_dev27 v4) < nD) ∧
  ((k0_dev28 v4) < nD) ∧
  ((k0_dev31 v4) < nD) ∧
  ((k0_dev32 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev5_lt : ∀ (v4 : BitVec 32) (k0_hw2 : k0_chk2 v4), (k0_dev5 v4) < nD := fun v4 k0_hw2 => k0_hw2.2.2.1
theorem k0_dev7_lt : ∀ (v4 : BitVec 32) (k0_hw2 : k0_chk2 v4), (k0_dev7 v4) < nD := fun v4 k0_hw2 => k0_hw2.2.2.2.1
theorem k0_dev8_lt : ∀ (v4 : BitVec 32) (k0_hw2 : k0_chk2 v4), (k0_dev8 v4) < nD := fun v4 k0_hw2 => k0_hw2.2.2.2.2.1
theorem k0_dev11_lt : ∀ (v4 : BitVec 32) (k0_hw2 : k0_chk2 v4), (k0_dev11 v4) < nD := fun v4 k0_hw2 => k0_hw2.2.2.2.2.2.1
theorem k0_dev12_lt : ∀ (v4 : BitVec 32) (k0_hw2 : k0_chk2 v4), (k0_dev12 v4) < nD := fun v4 k0_hw2 => k0_hw2.2.2.2.2.2.2.1
theorem k0_dev15_lt : ∀ (v4 : BitVec 32) (k0_hw2 : k0_chk2 v4), (k0_dev15 v4) < nD := fun v4 k0_hw2 => k0_hw2.2.2.2.2.2.2.2.1
theorem k0_dev16_lt : ∀ (v4 : BitVec 32) (k0_hw2 : k0_chk2 v4), (k0_dev16 v4) < nD := fun v4 k0_hw2 => k0_hw2.2.2.2.2.2.2.2.2.1
theorem k0_dev19_lt : ∀ (v4 : BitVec 32) (k0_hw2 : k0_chk2 v4), (k0_dev19 v4) < nD := fun v4 k0_hw2 => k0_hw2.2.2.2.2.2.2.2.2.2.1
theorem k0_dev20_lt : ∀ (v4 : BitVec 32) (k0_hw2 : k0_chk2 v4), (k0_dev20 v4) < nD := fun v4 k0_hw2 => k0_hw2.2.2.2.2.2.2.2.2.2.2.1
theorem k0_dev23_lt : ∀ (v4 : BitVec 32) (k0_hw2 : k0_chk2 v4), (k0_dev23 v4) < nD := fun v4 k0_hw2 => k0_hw2.2.2.2.2.2.2.2.2.2.2.2.1
theorem k0_dev24_lt : ∀ (v4 : BitVec 32) (k0_hw2 : k0_chk2 v4), (k0_dev24 v4) < nD := fun v4 k0_hw2 => k0_hw2.2.2.2.2.2.2.2.2.2.2.2.2.1
theorem k0_dev27_lt : ∀ (v4 : BitVec 32) (k0_hw2 : k0_chk2 v4), (k0_dev27 v4) < nD := fun v4 k0_hw2 => k0_hw2.2.2.2.2.2.2.2.2.2.2.2.2.2.1
theorem k0_dev28_lt : ∀ (v4 : BitVec 32) (k0_hw2 : k0_chk2 v4), (k0_dev28 v4) < nD := fun v4 k0_hw2 => k0_hw2.2.2.2.2.2.2.2.2.2.2.2.2.2.2.1
theorem k0_dev31_lt : ∀ (v4 : BitVec 32) (k0_hw2 : k0_chk2 v4), (k0_dev31 v4) < nD := fun v4 k0_hw2 => k0_hw2.2.2.2.2.2.2.2.2.2.2.2.2.2.2.2.1
theorem k0_dev32_lt : ∀ (v4 : BitVec 32) (k0_hw2 : k0_chk2 v4), (k0_dev32 v4) < nD := fun v4 k0_hw2 => k0_hw2.2.2.2.2.2.2.2.2.2.2.2.2.2.2.2.2

def k0_off14 (v783 : BitVec 32) : Fin 2 → Nat :=
  let c64_i32_1018 : BitVec 32 := 64#32
  let v784 : BitVec 32 := Scalar.muli v783 c64_i32_1018
  let v785 : Index := Scalar.indexCast v784
  let c0_1019 : Index := 0#32
  ![v785.toNat, 0]

def k0_chk15 (v783 : BitVec 32) : Prop :=
  (∀ a, (k0_off14 v783) a + S64x64.size a ≤ S1024x64.size a)
theorem k0_off14_inb : ∀ (v783 : BitVec 32) (k0_hw15 : k0_chk15 v783), ∀ a, (k0_off14 v783) a + S64x64.size a ≤ S1024x64.size a := fun v783 k0_hw15 => k0_hw15

def k0_off15 (v794 : BitVec 32) : Fin 2 → Nat :=
  let c64_i32_1027 : BitVec 32 := 64#32
  let v795 : BitVec 32 := Scalar.muli v794 c64_i32_1027
  let v796 : Index := Scalar.indexCast v795
  let c0_1028 : Index := 0#32
  ![v796.toNat, 0]

def k0_chk16 (v794 : BitVec 32) : Prop :=
  (∀ a, (k0_off15 v794) a + S64x64.size a ≤ S1024x64.size a)
theorem k0_off15_inb : ∀ (v794 : BitVec 32) (k0_hw16 : k0_chk16 v794), ∀ a, (k0_off15 v794) a + S64x64.size a ≤ S1024x64.size a := fun v794 k0_hw16 => k0_hw16

def k0_off16 (v825 : BitVec 32) : Fin 2 → Nat :=
  let c64_i32_1067 : BitVec 32 := 64#32
  let v826 : BitVec 32 := Scalar.muli v825 c64_i32_1067
  let v827 : Index := Scalar.indexCast v826
  let c0_1068 : Index := 0#32
  ![v827.toNat, 0]

def k0_chk17 (v825 : BitVec 32) : Prop :=
  (∀ a, (k0_off16 v825) a + S64x64.size a ≤ S1024x64.size a)
theorem k0_off16_inb : ∀ (v825 : BitVec 32) (k0_hw17 : k0_chk17 v825), ∀ a, (k0_off16 v825) a + S64x64.size a ≤ S1024x64.size a := fun v825 k0_hw17 => k0_hw17

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S7 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Body.lean ====
/- The kernel's body as data: the thirty transfers of the two rings, the fragments of the body that
   start, await and use them, and the theorem that the printed body is the sequence of those fragments. -/
module

public import proofs.«01_k».proof.Proof.Gen.KernelIdeal.Skeleton
public import proofs.«01_k».proof.Proof.Gen.KernelIdeal.Points

@[expose] public section

noncomputable section

namespace Cert.KernelIdeal.Ring

open Idealize.ShloMosaic Idealize.ShloMosaic.TcCoe Idealize.SL.Sem Cert.KernelIdeal.Gen

variable {F : FTy → Type} [FloatOps F]

/-! ## The transfers -/

/-- A transfer: a half (the last number) of the slab carried at a hop (the first number), on the
    clockwise ring (left summand: eight hops) or the counter-clockwise one (right summand: seven). -/
abbrev TI : Type := (Fin 8 × Fin 2) ⊕ (Fin 7 × Fin 2)

/-- A landing slab: one hop of one ring. -/
abbrev Slab : Type := Fin 8 ⊕ Fin 7

/-- The slab a transfer lands in. -/
def slabOf : TI → Slab
  | .inl t => .inl t.1
  | .inr t => .inr t.1

/-- The half a transfer carries. -/
def halfOf : TI → Fin 2
  | .inl t => t.2
  | .inr t => t.2

theorem inb_half : ∀ (s : Fin 2), ∀ a, (![32 * s.val, 0] : Fin 2 → Nat) a + S32x1024.size a ≤ S64x1024.size a := by decide
theorem inb_slabR : ∀ (h : Fin 8), ∀ a, (![h.val, 0, 0] : Fin 3 → Nat) a + S1x64x1024.size a ≤ S8x64x1024.size a := by decide
theorem inb_slabL : ∀ (h : Fin 7), ∀ a, (![h.val, 0, 0] : Fin 3 → Nat) a + S1x64x1024.size a ≤ S7x64x1024.size a := by decide
theorem inb_semR : ∀ (t : Fin 8 × Fin 2), ∀ a, (![t.1.val, t.2.val] : Fin 2 → Nat) a + S1x1.size a ≤ S8x2.size a := by decide
theorem inb_semL : ∀ (t : Fin 7 × Fin 2), ∀ a, (![t.1.val, t.2.val] : Fin 2 → Nat) a + S1x1.size a ≤ S7x2.size a := by decide
theorem inb_wordR : ∀ (h : Fin 8), ∀ a, (![h.val] : Fin 1 → Nat) a + S1.size a ≤ S8.size a := by decide
theorem inb_wordL : ∀ (h : Fin 7), ∀ a, (![h.val] : Fin 1 → Nat) a + S1.size a ≤ S7.size a := by decide

/-- Half `s` of a 64-row block. -/
abbrev half (m : Memref sig .tc .vmem S64x1024 .f32) (s : Fin 2) : Memref sig .tc .vmem S32x1024 .f32 :=
  m.slice (Rect.unit (s := S64x1024) ![32 * s.val, 0] S32x1024.size (inb_half s)) (fun _ => rfl)

/-- The staged block of the left operand, of the right operand, and of the result. -/
abbrev xM : Memref sig .tc .vmem S64x1024 .f32 := Memref.whole cc0_stg0_0
abbrev wM : Memref sig .tc .vmem S1024x64 .f32 := Memref.whole cc0_stg1_0
abbrev oM : Memref sig .tc .vmem S1024x64 .f32 := Memref.whole cc0_stg5_0
/-- The staged tables: the two neighbours, and whose block each hop brings on either ring. -/
abbrev nbM : Memref sig .tc .smem S2 .i32 := Memref.whole cc0_stg2_0
abbrev rM : Memref sig .tc .smem S8 .i32 := Memref.whole cc0_stg3_0
abbrev lM : Memref sig .tc .smem S7 .i32 := Memref.whole cc0_stg4_0
/-- The landing buffers of the two rings. -/
abbrev crM : Memref sig .tc .vmem S8x64x1024 .f32 := Memref.whole cc0_scratch0
abbrev clM : Memref sig .tc .vmem S7x64x1024 .f32 := Memref.whole cc0_scratch1

/-- The rectangle of slab `h` in either landing buffer. -/
abbrev rectR (h : Fin 8) : Rect S8x64x1024 := Rect.unit (s := S8x64x1024) ![h.val, 0, 0] S1x64x1024.size (inb_slabR h)
abbrev rectL (h : Fin 7) : Rect S7x64x1024 := Rect.unit (s := S7x64x1024) ![h.val, 0, 0] S1x64x1024.size (inb_slabL h)

/-- Slab `h` of either landing buffer, as a 64-row block. -/
abbrev slabR (h : Fin 8) : Memref sig .tc .vmem S64x1024 .f32 := (crM.slice (rectR h) (fun _ => rfl)).squeeze S64x1024 squeezes_S1x64x1024_S64x1024
abbrev slabL (h : Fin 7) : Memref sig .tc .vmem S64x1024 .f32 := (clM.slice (rectL h) (fun _ => rfl)).squeeze S64x1024 squeezes_S1x64x1024_S64x1024

/-- Where a transfer lands on the receiving device. -/
def dstV : TI → Memref sig .tc .vmem S32x1024 .f32
  | .inl t => half (slabR t.1) t.2
  | .inr t => half (slabL t.1) t.2

/-- What a transfer carries: the device's own block at the first hop, the previous hop's landing after. -/
def srcV : TI → Memref sig .tc .vmem S32x1024 .f32
  | .inl (⟨0, _⟩, s) => half xM s
  | .inl (⟨h + 1, q⟩, s) => half (slabR ⟨h, by omega⟩) s
  | .inr (⟨0, _⟩, s) => half xM s
  | .inr (⟨h + 1, q⟩, s) => half (slabL ⟨h, by omega⟩) s

/-- A transfer's semaphore at its sender, -/
def sS : TI → DmaSem sig
  | .inl t => ((cc0_scratch2.slice (Rect.unit (s := S8x2) ![t.1.val, t.2.val] S1x1.size (inb_semR t))).squeeze S_ squeezes_S1x1_S_).sem
  | .inr t => ((cc0_scratch4.slice (Rect.unit (s := S7x2) ![t.1.val, t.2.val] S1x1.size (inb_semL t))).squeeze S_ squeezes_S1x1_S_).sem
/-- and at its receiver. -/
def sR : TI → DmaSem sig
  | .inl t => ((cc0_scratch3.slice (Rect.unit (s := S8x2) ![t.1.val, t.2.val] S1x1.size (inb_semR t))).squeeze S_ squeezes_S1x1_S_).sem
  | .inr t => ((cc0_scratch5.slice (Rect.unit (s := S7x2) ![t.1.val, t.2.val] S1x1.size (inb_semL t))).squeeze S_ squeezes_S1x1_S_).sem

/-- The transfer that carries on what this one brought, if any. -/
def nextT : TI → Option TI
  | .inl (h, s) => if q : h.val + 1 < 8 then some (.inl (⟨h.val + 1, q⟩, s)) else none
  | .inr (h, s) => if q : h.val + 1 < 7 then some (.inr (⟨h.val + 1, q⟩, s)) else none

theorem dstV_hbm (t : TI) : (dstV t).view.ref.isScScratch = false := by rcases t with t | t <;> rfl

/-! ## The fragments of the body -/

/-- The two neighbours as the body computes them from the two words of its table, each with the bound
    the body assumes of it. -/
structure Nbrs where
  /-- the left neighbour's word -/
  l : BitVec 32
  hl : k0_chk1 l
  /-- the right neighbour's word -/
  r : BitVec 32
  hr : k0_chk2 r

/-- The neighbour a transfer goes to. -/
def Nbrs.peer (n : Nbrs) : TI → Dev nD
  | .inl _ => ⟨k0_dev2 n.r, k0_dev2_lt n.r n.hr⟩
  | .inr _ => ⟨k0_dev1 n.l, k0_dev1_lt n.l n.hl⟩

/-- Start transfer `t`. -/
def startP (n : Nbrs) (t : TI) : Prog (TpuEff nD τ sig (Elt F) Λ₀ .tc) PUnit :=
  Prog.lift (.enqueueDma (srcV t) (.remote (Dev.tc (n.peer t)) (dstV t) (.dma (sS t)) (dstV_hbm t)) (.dma (sR t))
    (View.wordExact_bits rfl) (View.wordExact_bits rfl) ⟨⟨rfl, Or.inl rfl⟩, trivial⟩)

/-- Await the landing of transfer `t` here. -/
def recvP (t : TI) : Prog (TpuEff nD τ sig (Elt F) Λ₀ .tc) PUnit :=
  Prog.lift (.waitDma2 (sR t) (srcV t) (dstV t) (View.wordExact_bits rfl) (View.wordExact_bits rfl))

/-- Await the departure of transfer `t` from here. -/
def drainP (t : TI) : Prog (TpuEff nD τ sig (Elt F) Λ₀ .tc) PUnit :=
  Prog.lift (.waitDma2 (sS t) (dstV t) (srcV t) (View.wordExact_bits rfl) (View.wordExact_bits rfl))

/-- Multiply the slab landed at a hop by the right operand and store the rows it makes. -/
def mulP : Slab → Prog (TpuEff nD τ sig (Elt F) Λ₀ .tc) PUnit
  | .inl h => do
    let a : Vec F S1x64x1024 .f32 ← Prog.lift (.load crM (rectR h).toLoadRect (View.loadsAt_vmem h_S1x64x1024))
    let b : Vec F S1024x64 .f32 ← Prog.lift (.load wM (Rect.unit (s := S1024x64) ![0, 0] S1024x64.size inb_S1024x64_S1024x64_0_0).toLoadRect (View.loadsAt_vmem h_S1024x64))
    let v : Elt F .i32 ← smemLoad rM (Rect.unit (s := S8) ![h.val] S1.size (inb_wordR h)) numel1_S1 rfl
    have hv : k0_chk3 v := (← Prog.lift (TpuEff.assume (k0_chk3 v) (k0_chk3.dec v))).down
    let _ : Vec F S64x64 .f32 ← Prog.lift (.load oM (Rect.unit (s := S1024x64) (k0_off2 v) S64x64.size (k0_off2_inb v hv)).toLoadRect (View.loadsAt_vmem h_S64x64))
    Prog.lift (.store oM (Rect.unit (s := S1024x64) (k0_off2 v) S64x64.size (k0_off2_inb v hv)) (k0_pay2 a b) Finset.univ (View.stores_vmem_bits_univ h_S64x64 rfl) (.inl rfl))
  | .inr h => do
    let a : Vec F S1x64x1024 .f32 ← Prog.lift (.load clM (rectL h).toLoadRect (View.loadsAt_vmem h_S1x64x1024))
    let b : Vec F S1024x64 .f32 ← Prog.lift (.load wM (Rect.unit (s := S1024x64) ![0, 0] S1024x64.size inb_S1024x64_S1024x64_0_0).toLoadRect (View.loadsAt_vmem h_S1024x64))
    let v : Elt F .i32 ← smemLoad lM (Rect.unit (s := S7) ![h.val] S1.size (inb_wordL h)) numel1_S1 rfl
    have hv : k0_chk3 v := (← Prog.lift (TpuEff.assume (k0_chk3 v) (k0_chk3.dec v))).down
    let _ : Vec F S64x64 .f32 ← Prog.lift (.load oM (Rect.unit (s := S1024x64) (k0_off2 v) S64x64.size (k0_off2_inb v hv)).toLoadRect (View.loadsAt_vmem h_S64x64))
    Prog.lift (.store oM (Rect.unit (s := S1024x64) (k0_off2 v) S64x64.size (k0_off2_inb v hv)) (k0_pay2 a b) Finset.univ (View.stores_vmem_bits_univ h_S64x64 rfl) (.inl rfl))

/-- Multiply the device's own block and store the rows it makes. -/
def ownP (d : Dev nD) : Prog (TpuEff nD τ sig (Elt F) Λ₀ .tc) PUnit := do
  let a : Vec F S64x1024 .f32 ← Prog.lift (.load xM (Rect.unit (s := S64x1024) ![0, 0] S64x1024.size inb_S64x1024_S64x1024_0_0).toLoadRect (View.loadsAt_vmem h_S64x1024))
  let b : Vec F S1024x64 .f32 ← Prog.lift (.load wM (Rect.unit (s := S1024x64) ![0, 0] S1024x64.size inb_S1024x64_S1024x64_0_0).toLoadRect (View.loadsAt_vmem h_S1024x64))
  let _ : Vec F S64x64 .f32 ← Prog.lift (.load oM (Rect.unit (s := S1024x64) (k0_off1 d) S64x64.size (k0_off1_inb d)).toLoadRect (View.loadsAt_vmem h_S64x64))
  Prog.lift (.store oM (Rect.unit (s := S1024x64) (k0_off1 d) S64x64.size (k0_off1_inb d)) (k0_pay1 a b) Finset.univ (View.stores_vmem_bits_univ h_S64x64 rfl) (.inl rfl))

/-- A step of the body after its prologue: start a transfer, await one, await a departure, multiply the
    device's own block, or multiply a landed slab. -/
inductive Act where
  | start (t : TI)
  | recv (t : TI)
  | drain (t : TI)
  | own
  | mul (b : Slab)
  deriving DecidableEq

/-- What a step runs. -/
def actP (n : Nbrs) (d : Dev nD) : Act → Prog (TpuEff nD τ sig (Elt F) Λ₀ .tc) PUnit
  | .start t => startP n t
  | .recv t => recvP t
  | .drain t => drainP t
  | .own => ownP d
  | .mul b => mulP b

/-- What a list of steps runs, in order. -/
def runP (n : Nbrs) (d : Dev nD) : List Act → Prog (TpuEff nD τ sig (Elt F) Λ₀ .tc) PUnit
  | [] => Prog.ret ⟨⟩
  | a :: l => do actP n d a; runP n d l

/-- Both halves' awaits at a hop of one ring, each followed by the start of the transfer that carries it on. -/
def hopR (h : Fin 8) : List Act :=
  [Act.recv (.inl (h, 0))] ++ ((nextT (.inl (h, 0))).map Act.start).toList ++ [Act.recv (.inl (h, 1))] ++ ((nextT (.inl (h, 1))).map Act.start).toList
def hopL (h : Fin 7) : List Act :=
  [Act.recv (.inr (h, 0))] ++ ((nextT (.inr (h, 0))).map Act.start).toList ++ [Act.recv (.inr (h, 1))] ++ ((nextT (.inr (h, 1))).map Act.start).toList

/-- The steps of the body after its prologue. -/
def acts : List Act :=
  [.start (.inl (0, 0)), .start (.inr (0, 0)), .start (.inl (0, 1)), .start (.inr (0, 1)), .own] ++
  ([0, 1, 2, 3, 4, 5, 6] : List (Fin 7)).flatMap (fun h => hopR h.castSucc ++ hopL h ++ [.mul (.inl h.castSucc), .mul (.inr h)]) ++
  (hopR 7 ++ [.mul (.inl 7)]) ++
  (([0, 1, 2, 3, 4, 5, 6, 7] : List (Fin 8)).flatMap (fun h => [.drain (.inl (h, 0)), .drain (.inl (h, 1))]) ++
   ([0, 1, 2, 3, 4, 5, 6] : List (Fin 7)).flatMap (fun h => [.drain (.inr (h, 0)), .drain (.inr (h, 1))]))

/-- The body as the sequence of its steps. -/
def ringBody : Prog (TpuEff nD τ sig (Elt F) Λ₀ .tc) PUnit := do
  let d : Dev nD ← Prog.lift .deviceId
  let v3 : Elt F .i32 ← smemLoad nbM (Rect.unit (s := S2) ![0] S1.size inb_S2_S1_0) numel1_S1 rfl
  have hw1 : k0_chk1 v3 := (← Prog.lift (TpuEff.assume (k0_chk1 v3) (k0_chk1.dec v3))).down
  let v4 : Elt F .i32 ← smemLoad nbM (Rect.unit (s := S2) ![1] S1.size inb_S2_S1_1) numel1_S1 rfl
  have hw2 : k0_chk2 v4 := (← Prog.lift (TpuEff.assume (k0_chk2 v4) (k0_chk2.dec v4))).down
  semSignalWord (Nbrs.peer ⟨v3, hw1, v4, hw2⟩ (.inr (0, 0))) (sig.barrier 0 rfl) 1#32
  semSignalWord (Nbrs.peer ⟨v3, hw1, v4, hw2⟩ (.inl (0, 0))) (sig.barrier 0 rfl) 1#32
  semWaitWord (sig.barrier 0 rfl) 2#32
  runP ⟨v3, hw1, v4, hw2⟩ d acts

set_option maxRecDepth 65536 in
set_option maxHeartbeats 40000000 in
/-- The printed body, on what the pipeline calls it with, is the sequence of its steps. -/
theorem body_eq_whole :
    cc0_body (F := F) xM (Memref.isWhole_whole _) wM (Memref.isWhole_whole _) nbM (Memref.isWhole_whole _) rM (Memref.isWhole_whole _)
      lM (Memref.isWhole_whole _) oM (Memref.isWhole_whole _) crM (Memref.isWhole_whole _) clM (Memref.isWhole_whole _)
      cc0_scratch2 cc0_scratch3 cc0_scratch4 cc0_scratch5 = ringBody := rfl

end Cert.KernelIdeal.Ring

end
-- ==== Proof.Ring.lean ====
/- The ring of the sixteen devices, whose block each transfer brings, and where in the buffers each transfer reads and
   writes. -/
module

public import proofs.«01_k».proof.Proof.Body
public import Idealize.ShloMosaic.Lib.Pipeline.Regions
public import Idealize.ShloMosaic.Lib.Pipeline.Kit
public import Idealize.ShloMosaic.Lib.Tactic
public import Idealize.ShloMosaic.Lib.ValueIdxCore
public import Idealize.ShloMosaic.Lib.ValueLayout

@[expose] public section

noncomputable section

namespace Cert.KernelIdeal.Ring

open Idealize.ShloMosaic Idealize.ShloMosaic.TcCoe Idealize.SL.Sem Cert.KernelIdeal.Gen

variable {F : FTy → Type} [FloatOps F]

/-! ## The ring -/

/-- The next device on the cycle that the ring walks, and the one before. -/
def nxt : Dev nD → Dev nD := fun c => (![1, 5, 3, 7, 0, 9, 2, 11, 4, 13, 6, 15, 8, 14, 10, 12] : Fin 16 → Fin 16) c
def prv : Dev nD → Dev nD := fun c => (![4, 0, 6, 2, 8, 1, 10, 3, 12, 5, 14, 7, 15, 9, 13, 11] : Fin 16 → Fin 16) c

theorem prv_nxt (c : Dev nD) : prv (nxt c) = c := by revert c; decide
theorem nxt_prv (c : Dev nD) : nxt (prv c) = c := by revert c; decide

/-- The cycle as a permutation of the devices. -/
def cycle : Dev nD ≃ Dev nD := ⟨nxt, prv, prv_nxt, nxt_prv⟩

/-- The device a transfer of device `c` goes to: the next one clockwise, the one before counter-clockwise. -/
def peerD (c : Dev nD) : TI → Dev nD
  | .inl _ => nxt c
  | .inr _ => prv c

/-- The device from which a transfer comes to device `c`. -/
def fromD (c : Dev nD) : TI → Dev nD
  | .inl _ => prv c
  | .inr _ => nxt c

theorem peer_from (c : Dev nD) (t : TI) : peerD (fromD c t) t = c := by
  rcases t with t | t
  · exact nxt_prv c
  · exact prv_nxt c
theorem from_peer (c : Dev nD) (t : TI) : fromD (peerD c t) t = c := by
  rcases t with t | t
  · exact prv_nxt c
  · exact nxt_prv c

/-- The device whose block lands in slab `b` of device `c`: as many steps back along the ring as the hop counts. -/
def org (c : Dev nD) : Slab → Dev nD
  | .inl h => prv^[h.val + 1] c
  | .inr h => nxt^[h.val + 1] c

/-- The device whose block transfer `t` of device `c` carries. -/
def carried (c : Dev nD) : TI → Dev nD
  | .inl (h, _) => prv^[h.val] c
  | .inr (h, _) => nxt^[h.val] c

/-- What lands at the receiver of a transfer is what the sender carried. -/
theorem org_peer (c : Dev nD) (t : TI) : org (peerD c t) (slabOf t) = carried c t := by
  rcases t with ⟨h, s⟩ | ⟨h, s⟩
  · show prv^[h.val + 1] (nxt c) = prv^[h.val] c
    rw [Function.iterate_succ_apply, prv_nxt]
  · show nxt^[h.val + 1] (prv c) = nxt^[h.val] c
    rw [Function.iterate_succ_apply, nxt_prv]

/-- The block of rows a device fills at a step: its own, or that of a landed slab. -/
def rowOf (c : Dev nD) : Option Slab → Dev nD
  | none => c
  | some b => org c b

/-- The sixteen blocks a device fills are those of the sixteen devices. -/
theorem rowOf_surj : ∀ c o : Dev nD, ∃ b, rowOf c b = o := by decide

/-! ## The order of a ring's transfers, closed up to a cycle -/

/-- The transfer after `t` on its ring for the same half, the first hop's after the last hop's. -/
def nx : TI → TI
  | .inl (h, s) => .inl (h + 1, s)
  | .inr (h, s) => .inr (h + 1, s)
/-- The transfer before. -/
def pv : TI → TI
  | .inl (h, s) => .inl (h - 1, s)
  | .inr (h, s) => .inr (h - 1, s)
theorem pv_nx : ∀ t : TI, pv (nx t) = t := by decide
theorem nx_pv : ∀ t : TI, nx (pv t) = t := by decide
/-- The order as a permutation of the transfers. -/
def nxEquiv : TI ≃ TI := ⟨nx, pv, pv_nx, nx_pv⟩

/-- The first hop's transfers carry the device's own block; the last hop's landings are carried no further. -/
def isFirst : TI → Bool
  | .inl (h, _) => h == 0
  | .inr (h, _) => h == 0
def isLast (t : TI) : Bool := isFirst (nx t)

theorem srcV_nx : ∀ t : TI, isLast t = false → srcV (nx t) = dstV t := by
  rintro (⟨h, s⟩ | ⟨h, s⟩) ht
  · fin_cases h <;> first | rfl | exact absurd ht (by decide +revert)
  · fin_cases h <;> first | rfl | exact absurd ht (by decide +revert)

/-! ## Contents -/

/-- The contents of a 64-row block, and of the landing buffers. -/
abbrev Blk (F : FTy → Type) : Type := S64x1024.Idx → Elt F .f32

/-- The index of a landing buffer without its slab. -/
def dropR (i : S8x64x1024.Idx) : S64x1024.Idx := ValueIdx.ix2 (i 1) (i 2)
def dropL (i : S7x64x1024.Idx) : S64x1024.Idx := ValueIdx.ix2 (i 1) (i 2)

variable (xs : Dev nD → Blk F)

/-- What device `c`'s landing buffers hold when all has landed. -/
def comR (c : Dev nD) : Buf (Elt F) ((c : Thread nD τ).loc cc0_scratch0) := fun i => xs (org c (.inl (i 0))) (dropR i)
def comL (c : Dev nD) : Buf (Elt F) ((c : Thread nD τ).loc cc0_scratch1) := fun i => xs (org c (.inr (i 0))) (dropL i)
/-- The staged block of device `c`. -/
def xC (c : Dev nD) : Buf (Elt F) ((c : Thread nD τ).loc cc0_stg0_0) := xs c

/-- The contents of the buffer a transfer lands in at device `c`, and of the one it reads there. -/
def landC (c : Dev nD) : (t : TI) → Buf (Elt F) ((dstV t).view.loc (c : Thread nD τ))
  | .inl _ => comR xs c
  | .inr _ => comL xs c
def srcC (c : Dev nD) : (t : TI) → Buf (Elt F) ((srcV t).view.loc (c : Thread nD τ))
  | .inl (⟨0, _⟩, _) => xC xs c
  | .inl (⟨_ + 1, _⟩, _) => comR xs c
  | .inr (⟨0, _⟩, _) => xC xs c
  | .inr (⟨_ + 1, _⟩, _) => comL xs c

/-! ## Where a transfer reads and writes -/

/-- Row `i` of half `s`, in the whole block. -/
def rowIn (s : Fin 2) (y : S32x1024.Idx) : S64x1024.Idx :=
  ValueIdx.ix2 (⟨32 * s.val + (y 0).val, by have h1 := s.isLt; have h2 : (y 0).val < 32 := (y 0).isLt; omega⟩ : Fin 64) (y 1)

theorem emb_half (s : Fin 2) (y : S32x1024.Idx) :
    (Rect.unit (s := S64x1024) ![32 * s.val, 0] S32x1024.size (inb_half s)).emb y = rowIn s y := by
  refine funext fun a => Fin.ext ?_
  match a with
  | ⟨0, _⟩ => exact (Rect.emb_apply _ _ _).trans (congrArg (32 * s.val + ·) (Nat.one_mul (y 0).val))
  | ⟨1, _⟩ => exact (Rect.emb_apply _ _ _).trans ((Nat.zero_add _).trans (Nat.one_mul (y 1).val))

theorem emb_slabR (h : Fin 8) (z : S64x1024.Idx) : (slabR h).view.emb z = ValueIdx.ix3 h (z 0) (z 1) := by
  show (rectR h).emb (Shape.reshapeEquiv _ z) = _
  have hz : Shape.reshapeEquiv squeezes_S1x64x1024_S64x1024.numel_eq z = (ValueIdx.ix3 (0 : Fin 1) (z 0) (z 1) : S1x64x1024.Idx) := by
    conv_lhs => rw [ValueIdx.eq_ix2 z]
    exact ValueIdx.reshapeEquiv_ix2_1ab _ _ _
  rw [hz]
  refine funext fun a => Fin.ext ?_
  match a with
  | ⟨0, _⟩ => exact Rect.emb_apply _ _ _
  | ⟨1, _⟩ => exact (Rect.emb_apply _ _ _).trans ((Nat.zero_add _).trans (Nat.one_mul (z 0).val))
  | ⟨2, _⟩ => exact (Rect.emb_apply _ _ _).trans ((Nat.zero_add _).trans (Nat.one_mul (z 1).val))
theorem emb_slabL (h : Fin 7) (z : S64x1024.Idx) : (slabL h).view.emb z = ValueIdx.ix3 h (z 0) (z 1) := by
  show (rectL h).emb (Shape.reshapeEquiv _ z) = _
  have hz : Shape.reshapeEquiv squeezes_S1x64x1024_S64x1024.numel_eq z = (ValueIdx.ix3 (0 : Fin 1) (z 0) (z 1) : S1x64x1024.Idx) := by
    conv_lhs => rw [ValueIdx.eq_ix2 z]
    exact ValueIdx.reshapeEquiv_ix2_1ab _ _ _
  rw [hz]
  refine funext fun a => Fin.ext ?_
  match a with
  | ⟨0, _⟩ => exact Rect.emb_apply _ _ _
  | ⟨1, _⟩ => exact (Rect.emb_apply _ _ _).trans ((Nat.zero_add _).trans (Nat.one_mul (z 0).val))
  | ⟨2, _⟩ => exact (Rect.emb_apply _ _ _).trans ((Nat.zero_add _).trans (Nat.one_mul (z 1).val))

theorem emb_dstR (h : Fin 8) (s : Fin 2) (y : S32x1024.Idx) :
    (dstV (.inl (h, s))).view.emb y = ValueIdx.ix3 h (rowIn s y 0) (rowIn s y 1) := by
  show (slabR h).view.emb ((Rect.unit (s := S64x1024) ![32 * s.val, 0] S32x1024.size (inb_half s)).emb y) = _
  rw [emb_half, emb_slabR]
theorem emb_dstL (h : Fin 7) (s : Fin 2) (y : S32x1024.Idx) :
    (dstV (.inr (h, s))).view.emb y = ValueIdx.ix3 h (rowIn s y 0) (rowIn s y 1) := by
  show (slabL h).view.emb ((Rect.unit (s := S64x1024) ![32 * s.val, 0] S32x1024.size (inb_half s)).emb y) = _
  rw [emb_half, emb_slabL]

/-- What a landing buffer reads through a transfer's destination: the rows of the half it carries, of the block landed. -/
theorem read_land (c : Dev nD) (t : TI) :
    (dstV t).view.read (Elt F) (landC xs c t) = fun y => xs (org c (slabOf t)) (rowIn (halfOf t) y) := by
  funext y
  rcases t with ⟨h, s⟩ | ⟨h, s⟩
  · show comR xs c ((dstV (.inl (h, s))).view.emb y) = _
    rw [emb_dstR]; exact congrArg (xs _) (ValueIdx.eq_ix2 (rowIn s y)).symm
  · show comL xs c ((dstV (.inr (h, s))).view.emb y) = _
    rw [emb_dstL]; exact congrArg (xs _) (ValueIdx.eq_ix2 (rowIn s y)).symm

/-- What a transfer reads at its source: the rows of its half, of the block it carries. -/
theorem read_src (c : Dev nD) (t : TI) :
    (srcV t).view.read (Elt F) (srcC xs c t) = fun y => xs (carried c t) (rowIn (halfOf t) y) := by
  rcases t with ⟨⟨_ | h, q⟩, s⟩ | ⟨⟨_ | h, q⟩, s⟩
  · funext y
    show xs c ((Rect.unit (s := S64x1024) ![32 * s.val, 0] S32x1024.size (inb_half s)).emb y) = _
    rw [emb_half]; rfl
  · exact read_land xs c (.inl (⟨h, by omega⟩, s))
  · funext y
    show xs c ((Rect.unit (s := S64x1024) ![32 * s.val, 0] S32x1024.size (inb_half s)).emb y) = _
    rw [emb_half]; rfl
  · exact read_land xs c (.inr (⟨h, by omega⟩, s))

/-- A transfer written over anything leaves, where it lands, the final contents of the receiver's landing buffer. -/
theorem write_land (c : Dev nD) (t : TI) (fd : Buf (Elt F) ((dstV t).view.loc (peerD c t : Thread nD τ))) :
    ∀ i ∈ (dstV t).view.set,
      (dstV t).view.write (Elt F) fd ((srcV t).view.read (Elt F) (srcC xs c t)) Finset.univ i = landC xs (peerD c t) t i := by
  intro i hi
  obtain ⟨y, -, rfl⟩ := Finset.mem_map.mp hi
  rw [View.write_emb_of_mem _ _ (Finset.mem_univ _), read_src, ← org_peer]
  have h := congrFun (read_land xs (peerD c t) t) y
  rw [View.read_apply] at h
  have h' : xs (org (peerD c t) (slabOf t)) (rowIn (halfOf t) y) = _ := h.symm
  show _root_.cast _ (xs (org (peerD c t) (slabOf t)) (rowIn (halfOf t) y)) = _
  rw [h', _root_.cast_cast, _root_.cast_eq]

/-! ## The landing buffers and the blocks as their parts -/

theorem mem_dstR (h : Fin 8) (s : Fin 2) (i : S8x64x1024.Idx) :
    i ∈ (dstV (.inl (h, s))).view.set ↔ i 0 = h ∧ (i 1).val / 32 = s.val := by
  constructor
  · intro hi
    obtain ⟨y, -, hy⟩ := Finset.mem_map.mp hi
    obtain rfl := (emb_dstR h s y).symm.trans hy
    have h2 : (y 0).val < 32 := (y 0).isLt
    exact ⟨rfl, by show (32 * s.val + (y 0).val) / 32 = s.val; omega⟩
  · rintro ⟨rfl, hs⟩
    refine Finset.mem_map.mpr ⟨ValueIdx.ix2 (⟨(i 1).val % 32, Nat.mod_lt _ (by decide)⟩ : Fin 32) (i 2), Finset.mem_univ _, ?_⟩
    refine (emb_dstR _ s _).trans ?_
    conv_rhs => rw [ValueIdx.eq_ix3 i]
    congr 1
    apply Fin.ext
    show 32 * s.val + (i 1).val % 32 = (i 1).val
    omega
theorem mem_dstL (h : Fin 7) (s : Fin 2) (i : S7x64x1024.Idx) :
    i ∈ (dstV (.inr (h, s))).view.set ↔ i 0 = h ∧ (i 1).val / 32 = s.val := by
  constructor
  · intro hi
    obtain ⟨y, -, hy⟩ := Finset.mem_map.mp hi
    obtain rfl := (emb_dstL h s y).symm.trans hy
    have h2 : (y 0).val < 32 := (y 0).isLt
    exact ⟨rfl, by show (32 * s.val + (y 0).val) / 32 = s.val; omega⟩
  · rintro ⟨rfl, hs⟩
    refine Finset.mem_map.mpr ⟨ValueIdx.ix2 (⟨(i 1).val % 32, Nat.mod_lt _ (by decide)⟩ : Fin 32) (i 2), Finset.mem_univ _, ?_⟩
    refine (emb_dstL _ s _).trans ?_
    conv_rhs => rw [ValueIdx.eq_ix3 i]
    congr 1
    apply Fin.ext
    show 32 * s.val + (i 1).val % 32 = (i 1).val
    omega

theorem mem_half (s : Fin 2) (i : S64x1024.Idx) : i ∈ (half xM s).view.set ↔ (i 0).val / 32 = s.val := by
  constructor
  · intro hi
    obtain ⟨y, -, hy⟩ := Finset.mem_map.mp hi
    obtain rfl : rowIn s y = i := (emb_half s y).symm.trans hy
    have h2 : (y 0).val < 32 := (y 0).isLt
    show (32 * s.val + (y 0).val) / 32 = s.val; omega
  · intro hs
    refine Finset.mem_map.mpr ⟨ValueIdx.ix2 (⟨(i 0).val % 32, Nat.mod_lt _ (by decide)⟩ : Fin 32) (i 1), Finset.mem_univ _, ?_⟩
    refine (emb_half s _).trans ?_
    conv_rhs => rw [ValueIdx.eq_ix2 i]
    unfold rowIn
    congr 1
    apply Fin.ext
    show 32 * s.val + (i 0).val % 32 = (i 0).val
    omega

/-- What a transfer credits. -/
def N : ℕ := (dstV (.inl (0, 0))).view.dmaCredit
theorem N_pos : 0 < N := View.dmaCredit_pos _ (by decide)
theorem amount_dst : ∀ t : TI, (dstV t).view.dmaCredit = N := by rintro (⟨h, s⟩ | ⟨h, s⟩) <;> rfl
theorem amount_src : ∀ t : TI, (srcV t).view.dmaCredit = N := by
  rintro (⟨⟨_ | h, q⟩, s⟩ | ⟨⟨_ | h, q⟩, s⟩) <;> rfl

theorem sR_inj : ∀ t t' : TI, sR t = sR t' → t = t' := by decide
theorem sS_inj : ∀ t t' : TI, sS t = sS t' → t = t' := by decide
theorem sR_ne_sS : ∀ t t' : TI, sR t ≠ sS t' := by decide

end Cert.KernelIdeal.Ring

end
-- ==== Proof.Sched.lean ====
/- The protocol of the sixteen devices: the cells, what each one's round hands over, what a device owes and may await, and the
   state of a device between two steps of its body. -/
module

public import proofs.«01_k».proof.Proof.Ring

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The ghost state: the pipeline's, and the ring's, whose duties are named by a bit (the barrier has two). -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-- The kernel's variants: none. -/
abbrev 𝒱₀ : Variants := Variants.none

/-! ## The cells -/

/-- The barrier semaphore. -/
abbrev barS : Sem sig := sig.barrier 0 rfl
abbrev bar (c : Dev nD) : GSem nD τ sig := ((c : Thread nD τ), .reg barS)
/-- The cell a transfer's departure from `c` credits, and the cell its landing at `c` credits. -/
abbrev sc (c : Dev nD) (t : TI) : GSem nD τ sig := ((c : Thread nD τ), .dma (sS t))
abbrev rc (c : Dev nD) (t : TI) : GSem nD τ sig := ((c : Thread nD τ), .dma (sR t))

/-- The kernel's own semaphores: the receiving ones (`true`) and the sending ones. -/
def osem : Bool × TI → SemLoc sig
  | (true, t) => .dma (sR t)
  | (false, t) => .dma (sS t)

theorem osem_inj : Function.Injective osem := by
  rintro ⟨_ | _, t⟩ ⟨_ | _, t'⟩ h
  · exact congrArg (Prod.mk false) (sS_inj t t' (SemLoc.dma.inj h))
  · exact absurd (SemLoc.dma.inj h).symm (sR_ne_sS t' t)
  · exact absurd (SemLoc.dma.inj h) (sR_ne_sS t t')
  · exact congrArg (Prod.mk true) (sR_inj t t' (SemLoc.dma.inj h))

/-- All devices' barrier cells, and all devices' own semaphores' cells. -/
def barEmb : Dev nD ↪ GSem nD τ sig := ⟨bar, fun c c' h => congrArg (fun g : GSem nD τ sig => g.1.1) h⟩
def ownEmb : Dev nD × (Bool × TI) ↪ GSem nD τ sig :=
  ⟨fun p => ((p.1 : Thread nD τ), osem p.2), fun p p' h =>
    Prod.ext (congrArg (fun g : GSem nD τ sig => g.1.1) h) (osem_inj (congrArg Prod.snd h))⟩
def barCells : Finset (GSem nD τ sig) := Finset.univ.map barEmb
def ownCells : Finset (GSem nD τ sig) := Finset.univ.map ownEmb

theorem bar_mem (c : Dev nD) : bar c ∈ barCells ∪ ownCells :=
  Finset.mem_union_left _ (Finset.mem_map_of_mem barEmb (Finset.mem_univ c))
theorem own_mem (c : Dev nD) (k : Bool × TI) : ((c : Thread nD τ), osem k) ∈ barCells ∪ ownCells :=
  Finset.mem_union_right _ (Finset.mem_map_of_mem ownEmb (Finset.mem_univ (c, k)))
theorem osem_ne_bar (k : Bool × TI) : osem k ≠ .reg barS := by rcases k with ⟨_ | _, t⟩ <;> exact fun h => by cases h
theorem cells_disjoint : Disjoint barCells ownCells := by
  rw [Finset.disjoint_left]
  intro g hg hg'
  obtain ⟨c, -, rfl⟩ := Finset.mem_map.mp hg
  obtain ⟨⟨c', k⟩, -, h⟩ := Finset.mem_map.mp hg'
  exact osem_ne_bar k (congrArg Prod.snd h)

/-! ## What the cells hand over -/

variable (xs : Dev nD → Blk F)

/-- The share at which a transfer holds its source. -/
def srcq : TI → PosShare TreeShare
  | .inl _ => fullShare.left
  | .inr (⟨0, _⟩, _) => fullShare.right.left
  | .inr (⟨_ + 1, _⟩, _) => fullShare.left

/-- A transfer's place at device `c`, held at the share `q` at some contents, or at what finally lands there. -/
def landAt (c : Dev nD) (t : TI) (q : PosShare TreeShare) (f : Buf (Elt F) ((dstV t).view.loc (c : Thread nD τ))) : sProp 𝕄 :=
  (dstV t).view.loc (c : Thread nD τ) ↦[(dstV t).view.set]{q} f
def land (c : Dev nD) (t : TI) (q : PosShare TreeShare) : sProp 𝕄 := landAt c t q (landC xs c t)
/-- A transfer's source at device `c`. -/
def srcP (c : Dev nD) (t : TI) : sProp 𝕄 :=
  (srcV t).view.loc (c : Thread nD τ) ↦[(srcV t).view.set]{srcq t} srcC xs c t

/-- What device `c` gets before it may start transfer `t`: the place it lands in, and that its receiver's cell is open. -/
def hand (c : Dev nD) (t : TI) : sProp 𝕄 :=
  iprop((∃ f, landAt (peerD c t) t fullShare f) ∗ reached ER (rc (peerD c t) t) 0)
/-- The transfers of a ring: the clockwise one's (`true`) and the other's. -/
def onRing (d : Bool) : Finset TI := Finset.univ.filter fun t => t.isLeft = d

/-- What a cell's one round hands its owner. A barrier duty: all the places of one ring. A receiving cell's: what landed. A
    sending cell's: the source back. -/
def pay (g : GSem nD τ sig) (d : Bool) : sProp 𝕄 :=
  if g.2 = .reg barS then bigSep (onRing d) (hand g.1.1)
  else if h : ∃ t, g.2 = .dma (sR t) then land xs g.1.1 h.choose fullShare
  else if h : ∃ t, g.2 = .dma (sS t) then srcP xs g.1.1 h.choose
  else iprop(emp)

/-- The duties of a cell's one round. -/
def dutiesOf (g : GSem nD τ sig) : Finset Bool :=
  if g.1.2 = .tc then (if g.2 = .reg barS then Finset.univ else if ∃ k, g.2 = osem k then {true} else ∅) else ∅

/-- One round on every cell: of two duties of a unit each on a barrier cell, of one duty of a transfer's credit on the others. -/
def ringRd : Rounds.Schedule (GSem nD τ sig) Bool 𝕄 where
  duties g r := if r = 0 then dutiesOf g else ∅
  unitless _ := False
  amount g _ _ := if g.2 = .reg barS then 1 else N
  payload g _ d := pay xs g d
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) xs).payload g r d) := by
  show BI.Storable upEmb (pay xs g d)
  unfold pay hand land landAt srcP
  (repeat' split) <;> infer_instance

section Sched

variable (c : Dev nD) (t : TI)

theorem dma_ne_bar (s : DmaSem sig) : (SemLoc.dma s : SemLoc sig) ≠ .reg barS := fun h => by cases h

omit [FloatOps F] in
theorem duties_bar : (ringRd (F := F) xs).duties (bar c) 0 = Finset.univ := by
  show (if 0 = 0 then dutiesOf (bar c) else ∅) = _
  rw [if_pos rfl, dutiesOf, if_pos rfl, if_pos rfl]
omit [FloatOps F] in
theorem duties_own (k : Bool × TI) : (ringRd (F := F) xs).duties ((c : Thread nD τ), osem k) 0 = {true} := by
  show (if 0 = 0 then dutiesOf ((c : Thread nD τ), osem k) else ∅) = _
  rw [if_pos rfl, dutiesOf, if_pos rfl, if_neg (osem_ne_bar k), if_pos ⟨k, rfl⟩]
omit [FloatOps F] in
theorem duties_snd : (ringRd (F := F) xs).duties (sc c t) 0 = {true} := duties_own xs c (false, t)
omit [FloatOps F] in
theorem duties_rcv : (ringRd (F := F) xs).duties (rc c t) 0 = {true} := duties_own xs c (true, t)
omit [FloatOps F] in
theorem duties_later (g : GSem nD τ sig) : ∀ r, 1 ≤ r → (ringRd (F := F) xs).duties g r = ∅ :=
  fun r hr => if_neg fun h => by omega

omit [FloatOps F] in
theorem amount_bar (d : Bool) : (ringRd (F := F) xs).amount (bar c) 0 d = 1 := by
  show (if (bar c).2 = .reg barS then 1 else N) = 1
  exact if_pos rfl
omit [FloatOps F] in
theorem amount_dma (s : DmaSem sig) (d : Bool) : (ringRd (F := F) xs).amount ((c : Thread nD τ), .dma s) 0 d = N := by
  show (if (SemLoc.dma s : SemLoc sig) = .reg barS then 1 else N) = N
  exact if_neg (dma_ne_bar s)

omit [FloatOps F] in
theorem expect_bar : (ringRd (F := F) xs).expect (bar c) 0 = 2 := by
  unfold Schedule.expect Schedule.amountOf
  rw [duties_bar, Finset.sum_congr rfl fun d _ => amount_bar xs c d, Finset.sum_const]; rfl
omit [FloatOps F] in
theorem expect_snd : (ringRd (F := F) xs).expect (sc c t) 0 = N := by
  unfold Schedule.expect Schedule.amountOf; rw [duties_snd, Finset.sum_singleton, amount_dma]
omit [FloatOps F] in
theorem expect_rcv : (ringRd (F := F) xs).expect (rc c t) 0 = N := by
  unfold Schedule.expect Schedule.amountOf; rw [duties_rcv, Finset.sum_singleton, amount_dma]

omit [FloatOps F] in
theorem payload_bar (d : Bool) : (ringRd (F := F) xs).payload (bar c) 0 d = bigSep (onRing d) (hand c) := by
  show pay xs (bar c) d = _
  unfold pay
  exact if_pos rfl
omit [FloatOps F] in
theorem payload_rcv (d : Bool) : (ringRd (F := F) xs).payload (rc c t) 0 d = land xs c t fullShare := by
  have h : ∃ t', (rc c t).2 = .dma (sR t') := ⟨t, rfl⟩
  show pay xs (rc c t) d = _
  unfold pay
  rw [if_neg (dma_ne_bar _), dif_pos h]
  have e : h.choose = t := (sR_inj _ _ (SemLoc.dma.inj h.choose_spec)).symm
  rw [e]
omit [FloatOps F] in
theorem payload_snd (d : Bool) : (ringRd (F := F) xs).payload (sc c t) 0 d = srcP xs c t := by
  have h : ∃ t', (sc c t).2 = .dma (sS t') := ⟨t, rfl⟩
  have h' : ¬ ∃ t', (sc c t).2 = .dma (sR t') := fun ⟨t', e⟩ => sR_ne_sS t' t (SemLoc.dma.inj e).symm
  show pay xs (sc c t) d = _
  unfold pay
  rw [if_neg (dma_ne_bar _), dif_neg h', dif_pos h]
  have e : h.choose = t := (sS_inj _ _ (SemLoc.dma.inj h.choose_spec)).symm
  rw [e]

omit [FloatOps F] in
/-- A device past its barrier has every place its transfers land in. -/
theorem rest_bar : bigSep ((ringRd (F := F) xs).duties (bar c) 0 \ ∅) (fun d => (ringRd (F := F) xs).payload (bar c) 0 d)
    = bigSep Finset.univ (hand (F := F) c) := by
  rw [Finset.sdiff_empty, duties_bar, bigSep_congr fun d _ => payload_bar xs c d,
    bigSep_univ_eq_bigSepL [true, false] (by decide) (by decide)]
  have hu : (Finset.univ : Finset TI) = onRing true ∪ onRing false := by decide
  rw [hu, bigSep_union (by decide)]
  simp only [bigSepL]
omit [FloatOps F] in
theorem rest_snd : bigSep ((ringRd (F := F) xs).duties (sc c t) 0 \ ∅) (fun d => (ringRd (F := F) xs).payload (sc c t) 0 d) = srcP xs c t := by
  rw [Finset.sdiff_empty, duties_snd, bigSep_singleton, payload_snd]
omit [FloatOps F] in
theorem rest_rcv : bigSep ((ringRd (F := F) xs).duties (rc c t) 0 \ ∅) (fun d => (ringRd (F := F) xs).payload (rc c t) 0 d) = land xs c t fullShare := by
  rw [Finset.sdiff_empty, duties_rcv, bigSep_singleton, payload_rcv]

end Sched

/-! ## What a device owes; the levels -/

/-- The order in which a device awaits its landings. -/
def lev : TI → ℕ
  | .inl (h, _) => 2 * h.val
  | .inr (h, _) => 2 * h.val + 1

/-- Membership in a list of transfers is decidable. -/
instance memDec (t : TI) (S : List TI) : Decidable (t ∈ S) := @List.instDecidableMemOfLawfulBEq TI instBEqOfDecidableEq inferInstance t S

/-- What a device owes once it has started the transfers `S`: the credits of all others. -/
def owedAfter (c : Dev nD) (S : List TI) : CellTallies nD τ sig Unit :=
  ∑ t ∈ Finset.univ.filter (fun t => t ∉ S), tallyAt (rc (peerD c t) t) () N

theorem owedAfter_start (c : Dev nD) (S : List TI) (t : TI) (h : t ∉ S) :
    owedAfter c S = owedAfter c (t :: S) + tallyAt (rc (peerD c t) t) () N := by
  unfold owedAfter
  have e : Finset.univ.filter (fun t' => t' ∉ S) = insert t (Finset.univ.filter fun t' => t' ∉ t :: S) := by
    ext t'
    simp only [Finset.mem_filter, Finset.mem_univ, _root_.true_and, Finset.mem_insert, List.mem_cons, not_or]
    by_cases e : t' = t
    · subst e; simp [h]
    · simp [e]
  rw [e, Finset.sum_insert (by simp), add_comm]

theorem owedAfter_all (c : Dev nD) (S : List TI) (h : ∀ t, t ∈ S) : owedAfter c S = 0 := by
  unfold owedAfter
  rw [Finset.filter_false_of_mem fun t _ => not_not.mpr (h t), Finset.sum_empty]

/-- A cell a device owes at is a receiving cell of a transfer it has not started. -/
theorem owed_cell (c : Dev nD) (S : List TI) (g : GSem nD τ sig) (u : Unit) (h : 0 < owedAfter c S g u) :
    ∃ t, t ∉ S ∧ g = rc (peerD c t) t := by
  unfold owedAfter at h
  rw [Finset.sum_apply, Finsupp.finset_sum_apply] at h
  obtain ⟨t, ht, hp⟩ := Finset.exists_ne_zero_of_sum_ne_zero (Nat.pos_iff_ne_zero.mp h)
  refine ⟨t, (Finset.mem_filter.mp ht).2, ?_⟩
  rw [tallyAt_apply] at hp
  by_contra hne
  exact hp (if_neg fun e => hne e.1)

def L (g : GSem nD τ sig) : Finset Unit := if g.1.2 = .tc then {()} else ∅
/-- The barrier at level 1, a receiving cell above by its place in the order of the awaits, every other cell at 0. -/
def lv (g : GSem nD τ sig) (_ : Unit) : ℕ :=
  if g.2 = .reg barS then 1 else if h : ∃ t, g.2 = .dma (sR t) then lev h.choose + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bar c) u = 1 := if_pos rfl
theorem lv_rc (c : Dev nD) (t : TI) (u : Unit) : lv (rc c t) u = lev t + 2 := by
  have h : ∃ t', (rc c t).2 = .dma (sR t') := ⟨t, rfl⟩
  unfold lv
  rw [if_neg (dma_ne_bar _), dif_pos h]
  have e : h.choose = t := (sR_inj _ _ (SemLoc.dma.inj h.choose_spec)).symm
  rw [e]
theorem lv_dma (c : Dev nD) (s : DmaSem sig) (hs : ∀ t, sR t ≠ s) (u : Unit) : lv ((c : Thread nD τ), .dma s) u = 0 := by
  unfold lv
  rw [if_neg (dma_ne_bar _), dif_neg fun ⟨t, e⟩ => hs t (SemLoc.dma.inj e).symm]

omit [FloatOps F] in
/-- A device may await a cell below everything it owes. -/
theorem mayWait (c : Dev nD) (sm : SemLoc sig) (S : List TI) (h : ∀ t, t ∉ S → lv ((c : Thread nD τ), sm) () < lev t + 2) :
    (levAts L lv : sProp 𝕄) ⊢ MayWait (c : Thread nD τ) sm () (owedAfter c S) :=
  MayOwe.of_cut (L := L) (lev := lv) (lv ((c : Thread nD τ), sm) ())
    (fun p hp => by rw [Finset.mem_singleton.mp hp, L_tc]; exact Finset.mem_singleton_self _)
    (fun g u hg => by obtain ⟨t, -, rfl⟩ := owed_cell c S g u hg; rw [L_tc]; exact Finset.mem_singleton_self _)
    (fun p hp => by rw [Finset.mem_singleton.mp hp])
    (fun g u hg => by obtain ⟨t, ht, rfl⟩ := owed_cell c S g u hg; rw [lv_rc]; exact h t ht)

/-- What a device owes at launch: every credit of its transfers and a unit to either neighbour's barrier. -/
def O₀ (c : Dev nD) : CellTallies nD τ sig Unit :=
  owedAfter c [] + tallyAt (bar (nxt c)) () 1 + tallyAt (bar (prv c)) () 1

/-! ## The invariants -/

/-- Every cell's invariant. -/
def invs (K : GSem nD τ sig → ℕ) : sProp 𝕄 := bigSep (barCells ∪ ownCells) fun g => cellInv ER (ringRd xs) (K g) g

instance invs_persistent (K : GSem nD τ sig → ℕ) : BI.Persistent (invs xs K) := by unfold invs; infer_instance

omit [FloatOps F] in
theorem invs_bar (K : GSem nD τ sig → ℕ) (c : Dev nD) : invs xs K ⊢ cellInv ER (ringRd xs) (K (bar c)) (bar c) := by
  unfold invs
  iintro H
  ihave H2 := (bigSep_pick (bar_mem c)) $$ H
  icases H2 with ⟨H, -⟩
  iexact H
omit [FloatOps F] in
theorem invs_own (K : GSem nD τ sig → ℕ) (c : Dev nD) (k : Bool × TI) :
    invs xs K ⊢ cellInv ER (ringRd xs) (K ((c : Thread nD τ), osem k)) ((c : Thread nD τ), osem k) := by
  unfold invs
  iintro H
  ihave H2 := (bigSep_pick (own_mem c k)) $$ H
  icases H2 with ⟨H, -⟩
  iexact H
omit [FloatOps F] in
theorem invs_rc (K : GSem nD τ sig → ℕ) (c : Dev nD) (t : TI) : invs xs K ⊢ cellInv ER (ringRd xs) (K (rc c t)) (rc c t) :=
  invs_own xs K c (true, t)
omit [FloatOps F] in
theorem invs_sc (K : GSem nD τ sig → ℕ) (c : Dev nD) (t : TI) : invs xs K ⊢ cellInv ER (ringRd xs) (K (sc c t)) (sc c t) :=
  invs_own xs K c (false, t)

end Cert.KernelIdeal.Ring

end
-- ==== Proof.State.lean ====
/- A device between two steps of its body, and what the steps of the protocol do to it: starting a transfer, awaiting a landing,
   awaiting a departure. -/
module

public import proofs.«01_k».proof.Proof.Sched

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The state -/

/-- What a device has done: the transfers started, landed and drained, and the row blocks of the result filled. -/
structure St where
  S : List TI
  V : List TI
  E : List TI
  D : List (Option Slab)

/-- The state after a step. -/
def next (σ : St) : Act → St
  | .start t => ⟨t :: σ.S, σ.V, σ.E, σ.D⟩
  | .recv t => ⟨σ.S, t :: σ.V, σ.E, σ.D⟩
  | .drain t => ⟨σ.S, σ.V, t :: σ.E, σ.D⟩
  | .own => ⟨σ.S, σ.V, σ.E, none :: σ.D⟩
  | .mul b => ⟨σ.S, σ.V, σ.E, some b :: σ.D⟩

/-- The transfer of half `s` at the hop of slab `b`. -/
def halfAt : Slab → Fin 2 → TI
  | .inl h, s => .inl (h, s)
  | .inr h, s => .inr (h, s)

/-- When a step may be taken: a transfer is started once and only with its source in hand; a landing is awaited once, before its
    onward transfer, and only with every transfer that may be awaited as early started; a departure is awaited once, after every start;
    a slab is multiplied once it has landed. -/
def okP (σ : St) : Act → Prop
  | .start t => t ∉ σ.S ∧ t ∉ σ.E ∧ (isFirst t = true ∨ pv t ∈ σ.V)
  | .recv t => t ∉ σ.V ∧ (isLast t = true ∨ nx t ∉ σ.S) ∧ ∀ t', t' ∉ σ.S → lev t < lev t'
  | .drain t => (∀ t', t' ∈ σ.S) ∧ t ∉ σ.E
  | .own => True
  | .mul b => halfAt b 0 ∈ σ.V ∧ halfAt b 1 ∈ σ.V

instance okDec (σ : St) (a : Act) : Decidable (okP σ a) := by cases a <;> unfold okP <;> infer_instance

/-- Everything is done: all transfers started, landed and drained, all row blocks filled. -/
def doneP (σ : St) : Prop := (∀ t, t ∈ σ.S) ∧ (∀ t, t ∈ σ.V) ∧ (∀ t, t ∈ σ.E) ∧ none ∈ σ.D ∧ (∀ h, some (Sum.inl h) ∈ σ.D) ∧ ∀ h, some (Sum.inr h) ∈ σ.D
instance blkDec (b : Option Slab) (D : List (Option Slab)) : Decidable (b ∈ D) :=
  @List.instDecidableMemOfLawfulBEq (Option Slab) instBEqOfDecidableEq inferInstance b D
instance doneDec (σ : St) : Decidable (doneP σ) := by unfold doneP; infer_instance

/-- Every step of a list may be taken where it stands, and in the end everything is done. -/
def okAll (σ : St) : List Act → Bool
  | [] => decide (doneP σ)
  | a :: l => decide (okP σ a) && okAll (next σ a) l

set_option maxRecDepth 100000 in
/-- The body's steps may be taken in their order. -/
theorem acts_ok : okAll ⟨[], [], [], []⟩ acts = true := by decide +kernel

/-! ## What a device holds -/

variable (xs : Dev nD → Blk F)

/-- The share of a landed half kept here: all of it, or what the onward transfer leaves. -/
def keepq (t : TI) : PosShare TreeShare := if isLast t = true then fullShare else fullShare.right

/-- A transfer at its sender: not started, in flight, or drained. -/
def sndR (c : Dev nD) (S E : List TI) (t : TI) : sProp 𝕄 :=
  if t ∈ E then iprop(atPos ER (sc c t) 1 ∅ 0 ∗ srcP xs c t)
  else if t ∈ S then iprop(cred (tallyAt (sc c t) () N) ∗ atPos ER (sc c t) 0 ∅ 0)
  else iprop(dutyTok ER (sc c t) 0 true ∗ dutyTok ER (rc (peerD c t) t) 0 true ∗ hand c t ∗ atPos ER (sc c t) 0 ∅ 0 ∗ reached ER (sc c t) 0)
/-- A transfer at its receiver: to come, or landed. -/
def rcvR (c : Dev nD) (V : List TI) (t : TI) : sProp 𝕄 :=
  if t ∈ V then iprop(atPos ER (rc c t) 1 ∅ 0 ∗ land xs c t (keepq t))
  else iprop(cred (tallyAt (rc c t) () N) ∗ atPos ER (rc c t) 0 ∅ 0)
/-- A transfer's source, from when it is there until the transfer is started. -/
def srcR (c : Dev nD) (S V : List TI) (t : TI) : sProp 𝕄 :=
  if t ∈ S then iprop(emp) else if isFirst t = true ∨ pv t ∈ V then srcP xs c t else iprop(emp)

/-- The protocol's part of a device's state. -/
def prot (K : GSem nD τ sig → ℕ) (c : Dev nD) (S V E : List TI) : sProp 𝕄 :=
  iprop(invs xs K ∗ levAts L lv ∗ bigSep Finset.univ (sndR xs c S E) ∗ bigSep Finset.univ (rcvR xs c V) ∗ bigSep Finset.univ (srcR xs c S V)
    ∗ ∃ W, owes (c : Thread nD τ) (owedAfter c S) W)

omit [FloatOps F] in
/-- One member of a family changed. -/
theorem swap {Φ Φ' : TI → sProp 𝕄} (t : TI) (h : ∀ t', t' ≠ t → Φ t' = Φ' t') :
    bigSep Finset.univ Φ ⊢ iprop(Φ t ∗ (Φ' t -∗ bigSep Finset.univ Φ')) := by
  have e : bigSep Finset.univ Φ' = iprop(Φ' t ∗ bigSep (Finset.univ.erase t) Φ) := by
    rw [bigSep_erase (Φ := Φ') (Finset.mem_univ t), bigSep_congr fun t' ht' => (h t' (Finset.ne_of_mem_erase ht')).symm]; rfl
  rw [e]
  iintro H
  ihave H2 := (bigSep_pick (Finset.mem_univ t)) $$ H
  icases H2 with ⟨H, Hr⟩
  isplitl [H]; · iexact H
  iintro H
  isplitl [H]; · iexact H
  iexact Hr

theorem mem_cons_ne {t t' : TI} {l : List TI} (h : t' ≠ t) : t' ∈ t :: l ↔ t' ∈ l := by
  rw [List.mem_cons]; exact or_iff_right h

omit [FloatOps F] in
/-- What an onward transfer carries is the landing it carries on. -/
theorem srcP_nx : ∀ (c : Dev nD) (t : TI), isLast t = false → srcP xs c (nx t) = land xs c t fullShare.left := by
  rintro c (⟨h, s⟩ | ⟨h, s⟩) ht
  · fin_cases h <;> first | rfl | exact absurd ht (by decide +revert)
  · fin_cases h <;> first | rfl | exact absurd ht (by decide +revert)

section Steps

variable (K : GSem nD τ sig → ℕ) (c : Dev nD) (n : Nbrs) (hn : ∀ t, n.peer t = peerD c t)

theorem start_gen (p : Dev nD) (t : TI) (hp : p = peerD c t) (S V E : List TI) (h : okP ⟨S, V, E, []⟩ (.start t)) :
    prot xs K c S V E ⊢ wp frame (wpE (defs₀ (F := F)) 𝒱₀ (c : Thread nD τ) none) Set.univ
      (Prog.lift (.enqueueDma (srcV t) (.remote (Dev.tc p) (dstV t) (.dma (sS t)) (dstV_hbm t)) (.dma (sR t))
        (View.wordExact_bits rfl) (View.wordExact_bits rfl) ⟨⟨rfl, Or.inl rfl⟩, trivial⟩)) fun _ => prot xs K c (t :: S) V E := by
  subst hp
  obtain ⟨hS, hE, hsrc⟩ := h
  unfold prot
  iintro ⟨#HI, #Hlev, Hsnd, Hrcv, Hsrc, ⟨%W, HO⟩⟩
  ihave Hs := (swap (Φ := sndR xs c S E) (Φ' := sndR xs c (t :: S) E) t (fun t' ht' => by
    unfold sndR; simp only [mem_cons_ne ht'])) $$ Hsnd
  ihave Hr := (swap (Φ := srcR xs c S V) (Φ' := srcR xs c (t :: S) V) t (fun t' ht' => by
    unfold srcR; simp only [mem_cons_ne ht'])) $$ Hsrc
  rw [show sndR xs c S E t = _ from (if_neg hE).trans (if_neg hS), show srcR xs c S V t = _ from (if_neg hS).trans (if_pos hsrc),
    show sndR xs c (t :: S) E t = _ from (if_neg hE).trans (if_pos List.mem_cons_self), show srcR xs c (t :: S) V t = _ from if_pos List.mem_cons_self]
  unfold hand srcP landAt
  icases Hs with ⟨⟨HtS, HtR, ⟨⟨%fd, Hd⟩, HrR⟩, Hat, HrS⟩, Hsnd⟩
  icases Hr with ⟨Hx, Hsrc⟩
  iapply (Rounds.wp_send_pointsTo 𝒱₀ ER (ringRd xs) (c : Thread nD τ) none (c' := (peerD c t : Thread nD τ)) (src := srcV t) (dst := dstV t)
      (sS := .dma (sS t)) (sem := .dma (sR t)) (q := srcq t) (fs := srcC xs c t) (κ₁ := K (sc c t)) (κ₂ := K (rc (peerD c t) t))
      (r₁ := 0) (r₂ := 0) (d₁ := true) (d₂ := true) (fd := fd)
      (by rw [duties_snd]; exact Finset.mem_singleton_self _) (by rw [duties_rcv]; exact Finset.mem_singleton_self _)
      () () N (amount_dst t) (amount_dma xs c (sS t) true) (amount_dma xs (peerD c t) (sR t) true) (owedAfter c (t :: S)) (owedAfter_start c S t hS) (W := W)
      (by rw [payload_snd]; exact BI.Entails.refl _)
      (by rw [payload_rcv]; exact Entails.of_eq (pointsTo_congr (write_land xs c t fd)))) $$ [Hx Hd HO HtS HrS HtR HrR]
  · isplitr; · iapply (invs_sc xs K c t); iexact HI
    isplitr; · iapply (invs_rc xs K (peerD c t) t); iexact HI
    isplitl [Hx]; · iexact Hx
    isplitl [Hd]; · iexact Hd
    isplitl [HO]; · iexact HO
    isplitl [HtS]; · iexact HtS
    isplitl [HrS]; · iexact HrS
    isplitl [HtR]; · iexact HtR
    iexact HrR
  iintro ⟨Hc, HO⟩
  rw [wp_ret]
  imodintro
  isplitr; · iexact HI
  isplitr; · iexact Hlev
  isplitl [Hsnd Hc Hat]
  · iapply Hsnd
    isplitl [Hc] <;> iassumption
  isplitl [Hrcv]; · iexact Hrcv
  isplitl [Hsrc]
  · iapply Hsrc; iempintro
  iexists W; iexact HO

include hn in
/-- Starting a transfer. -/
theorem start_step (t : TI) (S V E : List TI) (h : okP ⟨S, V, E, []⟩ (.start t)) :
    prot xs K c S V E ⊢ wp frame (wpE (defs₀ (F := F)) 𝒱₀ (c : Thread nD τ) none) Set.univ (startP n t) fun _ => prot xs K c (t :: S) V E :=
  start_gen xs K c (n.peer t) t (hn t) S V E h

/-- Awaiting a landing. -/
theorem recv_step (t : TI) (S V E : List TI) (h : okP ⟨S, V, E, []⟩ (.recv t)) :
    prot xs K c S V E ⊢ wp frame (wpE (defs₀ (F := F)) 𝒱₀ (c : Thread nD τ) none) Set.univ (recvP t) fun _ => prot xs K c S (t :: V) E := by
  obtain ⟨hV, hnx, hlev⟩ := h
  unfold prot recvP
  iintro ⟨#HI, #Hlev, Hsnd, Hrcv, Hsrc, ⟨%W, HO⟩⟩
  ihave Hr := (swap (Φ := rcvR xs c V) (Φ' := rcvR xs c (t :: V)) t (fun t' ht' => by
    unfold rcvR; simp only [mem_cons_ne ht'])) $$ Hrcv
  ihave Hs := (swap (Φ := srcR xs c S V) (Φ' := srcR xs c S (t :: V)) (nx t) (fun t' ht' => by
    have hne : pv t' ≠ t := fun e => ht' (by rw [← e, nx_pv])
    unfold srcR; simp only [mem_cons_ne hne])) $$ Hsrc
  rw [show rcvR xs c V t = _ from if_neg hV, show rcvR xs c (t :: V) t = _ from if_pos List.mem_cons_self]
  icases Hr with ⟨⟨Hc, Hat⟩, Hrcv⟩
  iapply (Rounds.wp_wait_rest_token 𝒱₀ ER (ringRd xs) (c : Thread nD τ) none (κ := K (rc c t))
      (wpE_waitDma2_eq 𝒱₀ (c : Thread nD τ) none Set.univ) (Set.mem_univ _) () (O := owedAfter c S) (W := W) (R := 0) (m := 0) (T := ∅)
      ((Nat.zero_add _).trans ((amount_dst t).trans (expect_rcv xs c t).symm))) $$ [Hc HO Hat]
  · isplitr; · iapply (invs_rc xs K c t); iexact HI
    isplitl [Hc]; · rw [amount_dst]; iexact Hc
    isplitl [HO]; · iexact HO
    isplitr
    · iapply (mayWait c (.dma (sR t)) S (fun t' ht' => by
        rw [show lv ((c : Thread nD τ), .dma (sR t)) () = lev t + 2 from lv_rc c t ()]
        exact Nat.add_lt_add_right (hlev t' ht') 2))
      iexact Hlev
    iexact Hat
  iintro ⟨HO, Hat, -, Hpay⟩
  ihave Hl := (Entails.of_eq (rest_rcv xs c t)) $$ Hpay
  rw [wp_ret]
  imodintro
  isplitr; · iexact HI
  isplitr; · iexact Hlev
  isplitl [Hsnd]; · iexact Hsnd
  by_cases hl : isLast t = true
  · rw [show srcR xs c S V (nx t) = srcR xs c S (t :: V) (nx t) from by
      unfold srcR; simp only [show isFirst (nx t) = true from hl, true_or]]
    rw [show keepq t = fullShare from if_pos hl]
    isplitl [Hl Hat Hrcv]
    · iapply Hrcv; isplitl [Hat] <;> iassumption
    isplitl [Hs]
    · icases Hs with ⟨H, Hs⟩; iapply Hs; iexact H
    iexists _; iexact HO
  · have hl' : isLast t = false := by simpa using hl
    rw [show srcR xs c S (t :: V) (nx t) = srcP xs c (nx t) from
      (if_neg (hnx.resolve_left hl)).trans (if_pos (Or.inr (by rw [pv_nx]; exact List.mem_cons_self)))]
    rw [show keepq t = fullShare.right from if_neg hl, srcP_nx xs c t hl']
    unfold land landAt
    ihave Hl2 := (pointsTo_share (PosShare.mem_left_op_right fullShare)).1 $$ Hl
    icases Hl2 with ⟨HlL, HlR⟩
    isplitl [HlR Hat Hrcv]
    · iapply Hrcv; isplitl [Hat] <;> iassumption
    isplitl [Hs HlL]
    · icases Hs with ⟨-, Hs⟩; iapply Hs; iexact HlL
    iexists _; iexact HO

/-- Awaiting a departure. -/
theorem drain_step (t : TI) (S V E : List TI) (h : okP ⟨S, V, E, []⟩ (.drain t)) :
    prot xs K c S V E ⊢ wp frame (wpE (defs₀ (F := F)) 𝒱₀ (c : Thread nD τ) none) Set.univ (drainP t) fun _ => prot xs K c S V (t :: E) := by
  obtain ⟨hall, hE⟩ := h
  have hS : t ∈ S := hall t
  unfold prot drainP
  iintro ⟨#HI, #Hlev, Hsnd, Hrcv, Hsrc, ⟨%W, HO⟩⟩
  ihave Hs := (swap (Φ := sndR xs c S E) (Φ' := sndR xs c S (t :: E)) t (fun t' ht' => by
    unfold sndR; simp only [mem_cons_ne ht'])) $$ Hsnd
  rw [show sndR xs c S E t = _ from (if_neg hE).trans (if_pos hS), show sndR xs c S (t :: E) t = _ from if_pos List.mem_cons_self]
  icases Hs with ⟨⟨Hc, Hat⟩, Hsnd⟩
  iapply (Rounds.wp_wait_rest_token 𝒱₀ ER (ringRd xs) (c : Thread nD τ) none (κ := K (sc c t))
      (wpE_waitDma2_eq 𝒱₀ (c : Thread nD τ) none Set.univ) (Set.mem_univ _) () (O := owedAfter c S) (W := W) (R := 0) (m := 0) (T := ∅)
      ((Nat.zero_add _).trans ((amount_src t).trans (expect_snd xs c t).symm))) $$ [Hc HO Hat]
  · isplitr; · iapply (invs_sc xs K c t); iexact HI
    isplitl [Hc]; · rw [amount_src]; iexact Hc
    isplitl [HO]; · iexact HO
    isplitr
    · rw [owedAfter_all c S hall, MayWait_zero]; iempintro
    iexact Hat
  iintro ⟨HO, Hat, -, Hpay⟩
  ihave Hl := (Entails.of_eq (rest_snd xs c t)) $$ Hpay
  rw [wp_ret]
  imodintro
  isplitr; · iexact HI
  isplitr; · iexact Hlev
  isplitl [Hsnd Hl Hat]
  · iapply Hsnd; isplitl [Hat] <;> iassumption
  isplitl [Hrcv]; · iexact Hrcv
  isplitl [Hsrc]; · iexact Hsrc
  iexists _; iexact HO

end Steps

end Cert.KernelIdeal.Ring

end
-- ==== Proof.Mul.lean ====
/- The steps that multiply: the device's own block, and a landed slab; and the run of all steps. -/
module

public import proofs.«01_k».proof.Proof.State
public import Idealize.ShloMosaic.Lib.Pipeline.Value

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The tables -/

/-- A device's number as a word. -/
def word (o : Dev nD) : BitVec 32 := BitVec.ofNat 32 o.val

theorem off2_word : ∀ o : Dev nD, k0_off2 (word o) = ![64 * o.val, 0] := by decide
theorem chk3_word (o : Dev nD) : k0_chk3 (word o) := by revert o; decide

/-- The staged tables of device `c`: its neighbours, and the devices whose blocks the hops of either ring bring. -/
def nbT (c : Dev nD) : Buf (Elt F) ((c : Thread nD τ).loc cc0_stg2_0) := fun i => if (i 0).val = 0 then word (prv c) else word (nxt c)
def rT (c : Dev nD) : Buf (Elt F) ((c : Thread nD τ).loc cc0_stg3_0) := fun i => word (org c (.inl (i 0)))
def lT (c : Dev nD) : Buf (Elt F) ((c : Thread nD τ).loc cc0_stg4_0) := fun i => word (org c (.inr (i 0)))

theorem read_rT (c : Dev nD) (h : Fin 8) (x : (Rect.unit (s := S8) ![h.val] S1.size (inb_wordR h)).shape.Idx) :
    (rM.access (Rect.unit (s := S8) ![h.val] S1.size (inb_wordR h))).read (Elt F) (rT (F := F) c) x = word (org c (.inl h)) := by
  show word (org c (.inl ((Rect.unit (s := S8) ![h.val] S1.size (inb_wordR h)).emb x 0))) = _
  refine congrArg (fun h => word (org c (.inl h))) (Fin.ext ?_)
  refine (Rect.emb_apply _ _ _).trans ?_
  have hx : (x 0).val < 1 := (x 0).isLt
  show h.val + 1 * (x 0).val = h.val
  omega
theorem read_lT (c : Dev nD) (h : Fin 7) (x : (Rect.unit (s := S7) ![h.val] S1.size (inb_wordL h)).shape.Idx) :
    (lM.access (Rect.unit (s := S7) ![h.val] S1.size (inb_wordL h))).read (Elt F) (lT (F := F) c) x = word (org c (.inr h)) := by
  show word (org c (.inr ((Rect.unit (s := S7) ![h.val] S1.size (inb_wordL h)).emb x 0))) = _
  refine congrArg (fun h => word (org c (.inr h))) (Fin.ext ?_)
  refine (Rect.emb_apply _ _ _).trans ?_
  have hx : (x 0).val < 1 := (x 0).isLt
  show h.val + 1 * (x 0).val = h.val
  omega

/-! ## The result -/

variable (xs : Dev nD → Blk F) (ws : Dev nD → (S1024x64.Idx → Elt F .f32))

/-- The device whose rows an element of the result lies in, and the place among them. -/
def rowDev (i : S1024x64.Idx) : Dev nD := ⟨(i 0).val / 64, by have h : (i 0).val < 1024 := (i 0).isLt; show _ < 16; omega⟩
def rowAt (i : S1024x64.Idx) : S64x64.Idx := ValueIdx.ix2 (⟨(i 0).val % 64, Nat.mod_lt _ (by decide)⟩ : Fin 64) (i 1)

/-- What a device finally holds: at the rows of each device, the activated product of that device's block with its own columns. -/
def outv (c : Dev nD) : S1024x64.Idx → Elt F .f32 := fun i => k0_pay1 (xs (rowDev i)) (ws c) (rowAt i)

/-- Whether an element's rows are among the blocks filled. -/
def filled (c : Dev nD) (D : List (Option Slab)) (i : S1024x64.Idx) : Bool := D.any fun b => decide (rowOf c b = rowDev i)
/-- What a device holds once it has filled some blocks. -/
def outC (c : Dev nD) (D : List (Option Slab)) (g : S1024x64.Idx → Elt F .f32) : Buf (Elt F) ((c : Thread nD τ).loc cc0_stg5_0) :=
  fun i => if filled c D i = true then outv xs ws c i else g i

theorem mem_rows (o : Dev nD) (inb : ∀ a, (![64 * o.val, 0] : Fin 2 → Nat) a + S64x64.size a ≤ S1024x64.size a) (i : S1024x64.Idx)
    (hi : i ∈ ((oM.access (Rect.unit (s := S1024x64) ![64 * o.val, 0] S64x64.size inb)).set : Finset S1024x64.Idx)) : rowDev i = o := by
  obtain ⟨y, -, hy⟩ := Finset.mem_map.mp hi
  have h0 : (i 0).val = 64 * o.val + (y 0).val := by
    refine (congrArg (fun i : S1024x64.Idx => (i 0).val) hy).symm.trans ?_
    exact (Rect.emb_apply _ _ _).trans (congrArg (64 * o.val + ·) (Nat.one_mul (y 0).val))
  have h1 : (y 0).val < 64 := (y 0).isLt
  apply Fin.ext
  show (i 0).val / 64 = o.val
  omega

/-- Filling one more block. -/
theorem write_rows (c : Dev nD) (b : Option Slab) (o : Dev nD) (hb : rowOf c b = o) (D : List (Option Slab)) (g : S1024x64.Idx → Elt F .f32)
    (inb : ∀ a, (![64 * o.val, 0] : Fin 2 → Nat) a + S64x64.size a ≤ S1024x64.size a) :
    (oM.access (Rect.unit (s := S1024x64) ![64 * o.val, 0] S64x64.size inb)).write (Elt F) (outC xs ws c D g) (k0_pay1 (xs o) (ws c)) Finset.univ
      = outC xs ws c (b :: D) g := by
  funext i
  by_cases h : rowDev i = o
  · have hy : (Rect.unit (s := S1024x64) ![64 * o.val, 0] S64x64.size inb).emb (rowAt i) = i := by
      have h0 : (i 0).val / 64 = o.val := congrArg Fin.val h
      refine funext fun a => Fin.ext ?_
      match a with
      | ⟨0, _⟩ =>
        refine (Rect.emb_apply _ _ _).trans ?_
        show 64 * o.val + 1 * ((i 0).val % 64) = (i 0).val
        omega
      | ⟨1, _⟩ => exact (Rect.emb_apply _ _ _).trans ((Nat.zero_add _).trans (Nat.one_mul (i 1).val))
    have hw := View.write_emb_of_mem (v := oM.access (Rect.unit (s := S1024x64) ![64 * o.val, 0] S64x64.size inb)) (Val := Elt F)
      (outC xs ws c D g) (k0_pay1 (xs o) (ws c)) (M := Finset.univ) (Finset.mem_univ (rowAt i))
    have hf : filled c (b :: D) i = true := by
      unfold filled; rw [List.any_cons, decide_eq_true (hb.trans h.symm), Bool.true_or]
    refine (congrArg _ hy).symm.trans (hw.trans ?_)
    refine Eq.trans ?_ (if_pos hf).symm
    unfold outv
    rw [h]; rfl
  · refine (View.write_of_not_mem _ _ Finset.univ fun hm => h (mem_rows o inb i hm)).trans ?_
    have hf : filled c (b :: D) i = filled c D i := by
      unfold filled; rw [List.any_cons, decide_eq_false (fun e => h (e.symm.trans hb)), Bool.false_or]
    unfold outC
    rw [hf]

/-- A slab loaded and multiplied is the block of the device it came from, multiplied. -/
theorem pay_slab (a : Vec F S1x64x1024 .f32) (b : Vec F S1024x64 .f32) (x : Blk F) (h : ∀ i, a i = x (ValueIdx.ix2 (i 1) (i 2))) :
    k0_pay2 a b = k0_pay1 x b := by
  have e : shapeCast S64x1024 a shapeCasts_S1x64x1024_S64x1024 = x := by
    funext y
    show a (Shape.reshapeEquiv _ y) = _
    have hz : Shape.reshapeEquiv (s := S1x64x1024) shapeCasts_S1x64x1024_S64x1024 y = (ValueIdx.ix3 (0 : Fin 1) (y 0) (y 1) : S1x64x1024.Idx) := by
      conv_lhs => rw [ValueIdx.eq_ix2 y]
      exact ValueIdx.reshapeEquiv_ix2_1ab _ _ _
    rw [hz, h]
    exact congrArg x (ValueIdx.eq_ix2 y).symm
  unfold k0_pay2 k0_pay1
  rw [e, shapeCast_self, shapeCast_self]

theorem read_slabR (c : Dev nD) (h : Fin 8) (i : S1x64x1024.Idx) :
    crM.view.readAt (Elt F) (rectR h).toLoadRect (comR xs c) i = xs (org c (.inl h)) (ValueIdx.ix2 (i 1) (i 2)) := by
  have hi : (rectR h).emb i = ValueIdx.ix3 h (i 1) (i 2) := by
    refine funext fun a => Fin.ext ?_
    match a with
    | ⟨0, _⟩ =>
      refine (Rect.emb_apply _ _ _).trans ?_
      have hx : (i 0).val < 1 := (i 0).isLt
      show h.val + 1 * (i 0).val = h.val
      omega
    | ⟨1, _⟩ => exact (Rect.emb_apply _ _ _).trans ((Nat.zero_add _).trans (Nat.one_mul (i 1).val))
    | ⟨2, _⟩ => exact (Rect.emb_apply _ _ _).trans ((Nat.zero_add _).trans (Nat.one_mul (i 2).val))
  show comR xs c ((rectR h).emb i) = _
  rw [hi]; rfl
theorem read_slabL (c : Dev nD) (h : Fin 7) (i : S1x64x1024.Idx) :
    clM.view.readAt (Elt F) (rectL h).toLoadRect (comL xs c) i = xs (org c (.inr h)) (ValueIdx.ix2 (i 1) (i 2)) := by
  have hi : (rectL h).emb i = ValueIdx.ix3 h (i 1) (i 2) := by
    refine funext fun a => Fin.ext ?_
    match a with
    | ⟨0, _⟩ =>
      refine (Rect.emb_apply _ _ _).trans ?_
      have hx : (i 0).val < 1 := (i 0).isLt
      show h.val + 1 * (i 0).val = h.val
      omega
    | ⟨1, _⟩ => exact (Rect.emb_apply _ _ _).trans ((Nat.zero_add _).trans (Nat.one_mul (i 1).val))
    | ⟨2, _⟩ => exact (Rect.emb_apply _ _ _).trans ((Nat.zero_add _).trans (Nat.one_mul (i 2).val))
  show comL xs c ((rectL h).emb i) = _
  rw [hi]; rfl

/-! ## What the multiplying steps hold -/

/-- The staged blocks: the left operand's at the share the first hops leave, the right operand's, and the result's. -/
def xK (c : Dev nD) : sProp 𝕄 := xM.view.loc (c : Thread nD τ) ↦[Finset.univ]{fullShare.right.right} xC xs c
def wK (c : Dev nD) : sProp 𝕄 := wM.view.loc (c : Thread nD τ) ↦[Finset.univ]{fullShare} ws c
def oK (c : Dev nD) (D : List (Option Slab)) (g : S1024x64.Idx → Elt F .f32) : sProp 𝕄 :=
  oM.view.loc (c : Thread nD τ) ↦[Finset.univ]{fullShare} outC xs ws c D g
/-- The staged tables. -/
def nbK (c : Dev nD) : sProp 𝕄 := nbM.view.loc (c : Thread nD τ) ↦[Finset.univ]{fullShare} nbT (F := F) c
def rK (c : Dev nD) : sProp 𝕄 := rM.view.loc (c : Thread nD τ) ↦[Finset.univ]{fullShare} rT (F := F) c
def lK (c : Dev nD) : sProp 𝕄 := lM.view.loc (c : Thread nD τ) ↦[Finset.univ]{fullShare} lT (F := F) c

/-- The places of a hop's two halves, which make up a slab. -/
def setR (h : Fin 8) (s : Fin 2) : Finset S8x64x1024.Idx := (dstV (.inl (h, s))).view.set
theorem disjR (h : Fin 8) : Disjoint (setR h 0) (setR h 1) :=
  Finset.disjoint_left.mpr fun i h0 h1 => absurd (((mem_dstR h 0 i).mp h0).2.symm.trans ((mem_dstR h 1 i).mp h1).2) (by decide)
theorem slab_subR (h : Fin 8) : crM.view.setOn (rectR h).toLoadRect.set ⊆ setR h 0 ∪ setR h 1 := by
  intro i hi
  obtain ⟨j, hj, rfl⟩ := Finset.mem_map.mp hi
  have hi0 : j 0 = h := by
    obtain ⟨x, hx, he⟩ := (rectR h).mem_set.mp hj 0
    have hx' : x < 1 := hx
    have he' : (j 0).val = h.val + 1 * x := he
    exact Fin.ext (by omega)
  have h1 : (j 1).val < 64 := (j 1).isLt
  by_cases hlt : (j 1).val < 32
  · exact Finset.mem_union_left _ ((mem_dstR h 0 _).mpr ⟨hi0, Nat.div_eq_of_lt hlt⟩)
  · exact Finset.mem_union_right _ ((mem_dstR h 1 _).mpr ⟨hi0, by show (j 1).val / 32 = 1; omega⟩)
theorem land2R (c : Dev nD) (h : Fin 8) (q : PosShare TreeShare) :
    iprop(land xs c (.inl (h, 0)) q ∗ land xs c (.inl (h, 1)) q)
      ⊣⊢ (crM.view.loc (c : Thread nD τ) ↦[setR h 0 ∪ setR h 1]{q} comR xs c : sProp 𝕄) :=
  have h := pointsTo_union (ℓ := crM.view.loc (c : Thread nD τ)) (q := q) (f := comR xs c) (disjR h)
  ⟨h.2, h.1⟩

/-- The places of a hop's two halves, which make up a slab. -/
def setL (h : Fin 7) (s : Fin 2) : Finset S7x64x1024.Idx := (dstV (.inr (h, s))).view.set
theorem disjL (h : Fin 7) : Disjoint (setL h 0) (setL h 1) :=
  Finset.disjoint_left.mpr fun i h0 h1 => absurd (((mem_dstL h 0 i).mp h0).2.symm.trans ((mem_dstL h 1 i).mp h1).2) (by decide)
theorem slab_subL (h : Fin 7) : clM.view.setOn (rectL h).toLoadRect.set ⊆ setL h 0 ∪ setL h 1 := by
  intro i hi
  obtain ⟨j, hj, rfl⟩ := Finset.mem_map.mp hi
  have hi0 : j 0 = h := by
    obtain ⟨x, hx, he⟩ := (rectL h).mem_set.mp hj 0
    have hx' : x < 1 := hx
    have he' : (j 0).val = h.val + 1 * x := he
    exact Fin.ext (by omega)
  have h1 : (j 1).val < 64 := (j 1).isLt
  by_cases hlt : (j 1).val < 32
  · exact Finset.mem_union_left _ ((mem_dstL h 0 _).mpr ⟨hi0, Nat.div_eq_of_lt hlt⟩)
  · exact Finset.mem_union_right _ ((mem_dstL h 1 _).mpr ⟨hi0, by show (j 1).val / 32 = 1; omega⟩)
theorem land2L (c : Dev nD) (h : Fin 7) (q : PosShare TreeShare) :
    iprop(land xs c (.inr (h, 0)) q ∗ land xs c (.inr (h, 1)) q)
      ⊣⊢ (clM.view.loc (c : Thread nD τ) ↦[setL h 0 ∪ setL h 1]{q} comL xs c : sProp 𝕄) :=
  have h := pointsTo_union (ℓ := clM.view.loc (c : Thread nD τ)) (q := q) (f := comL xs c) (disjL h)
  ⟨h.2, h.1⟩

/-- A store through a rectangle of the result's block, all of which is held. -/
theorem store_out (c : Dev nD) (r : Rect S1024x64) (f : Buf (Elt F) (oM.view.loc (c : Thread nD τ))) (w) (hx) (hm) (Q : PUnit → sProp 𝕄) :
    (oM.view.loc (c : Thread nD τ) ↦[Finset.univ]{fullShare} f) ⊢
      iprop(((oM.view.loc (c : Thread nD τ) ↦[Finset.univ]{fullShare} (oM.access r).write (Elt F) f w Finset.univ) -∗ Q ⟨⟩)
        -∗ wp frame (wpE (defs₀ (F := F)) 𝒱₀ (c : Thread nD τ) none) Set.univ (Prog.lift (.store oM r w Finset.univ hx hm)) Q) := by
  iintro H Hk
  iapply (show (oM.view.loc (c : Thread nD τ) ↦[Finset.univ]{fullShare} f) ⊢ _ from
    wp_store 𝒱₀ (c : Thread nD τ) none Set.univ (m := oM) (r := r) (w := w) (Mk := Finset.univ) (hx := hx) (hm := hm) (k := .ret) (Q := Q)
      (S := Finset.univ) (f := f) (Finset.subset_univ _)) $$ H
  iintro H
  rw [wp_ret]; imodintro
  iapply Hk
  iexact H

/-- A load of a word of either table, all of which is held. -/
theorem load_word {s : Shape} (m : Memref sig .tc .smem s .i32) (c : Dev nD) (r : Rect s) (h1) (hp) (f : Buf (Elt F) (m.view.loc (c : Thread nD τ)))
    (o : BitVec 32) (ho : ∀ x, (m.access r).read (Elt F) f x = o) (Q : BitVec 32 → sProp 𝕄) :
    (m.view.loc (c : Thread nD τ) ↦[Finset.univ]{fullShare} f) ⊢
      iprop(((m.view.loc (c : Thread nD τ) ↦[Finset.univ]{fullShare} f) -∗ Q o)
        -∗ wp frame (wpE (defs₀ (F := F)) 𝒱₀ (c : Thread nD τ) none) Set.univ (smemLoad m r h1 hp) Q) := by
  iintro H Hk
  unfold smemLoad
  iapply (show (m.view.loc (c : Thread nD τ) ↦[Finset.univ]{fullShare} f) ⊢ _ from
    wp_smemLoadElt 𝒱₀ (c : Thread nD τ) none Set.univ (m := m) (r := r) (k := .ret) (Q := Q) (S := Finset.univ) (f := f) (Finset.subset_univ _)) $$ H
  iintro H
  rw [wp_ret, ho]; imodintro
  iapply Hk
  iexact H

/-- The rows of one device stored over what is held. -/
theorem fill (c : Dev nD) (b : Option Slab) (o : Dev nD) (hb : rowOf c b = o) (D : List (Option Slab)) (g : S1024x64.Idx → Elt F .f32)
    (off : Fin 2 → Nat) (hoff : off = ![64 * o.val, 0]) (inb : ∀ a, off a + S64x64.size a ≤ S1024x64.size a)
    (w : FVec F S64x64 .f32) (hw : w = k0_pay1 (xs o) (ws c)) (Q : PUnit → sProp 𝕄) (hl) (hx) (hm) :
    iprop(oK xs ws c D g ∗ (oK xs ws c (b :: D) g -∗ Q ⟨⟩)) ⊢ wp frame (wpE (defs₀ (F := F)) 𝒱₀ (c : Thread nD τ) none) Set.univ
      (Prog.lift (.load oM (Rect.unit (s := S1024x64) off S64x64.size inb).toLoadRect hl))
      fun _ => wp frame (wpE (defs₀ (F := F)) 𝒱₀ (c : Thread nD τ) none) Set.univ
        (Prog.lift (.store oM (Rect.unit (s := S1024x64) off S64x64.size inb) w Finset.univ hx hm)) Q := by
  subst hoff hw
  unfold oK
  iintro ⟨Ho, Hk⟩
  iapply (wp_load 𝒱₀ (c : Thread nD τ) none Set.univ (m := oM) (S := Finset.univ) (Finset.subset_univ _)) $$ Ho
  iintro Ho
  rw [wp_ret]; imodintro
  iapply (store_out c _ _ _ hx hm Q) $$ Ho
  iintro Ho
  iapply Hk
  rw [← write_rows xs ws c b o hb D g inb]
  iexact Ho

/-- Multiplying the device's own block. -/
theorem own_step (c : Dev nD) (D : List (Option Slab)) (g : S1024x64.Idx → Elt F .f32) (Q : PUnit → sProp 𝕄) :
    iprop(xK xs c ∗ wK ws c ∗ oK xs ws c D g ∗ (xK xs c -∗ wK ws c -∗ oK xs ws c (none :: D) g -∗ Q ⟨⟩))
      ⊢ wp frame (wpE (defs₀ (F := F)) 𝒱₀ (c : Thread nD τ) none) Set.univ (ownP c) Q := by
  unfold ownP
  simp only [wp_bind]
  iintro ⟨Hx, Hw, Ho, Hk⟩
  unfold xK wK
  iapply (wp_load 𝒱₀ (c : Thread nD τ) none Set.univ (m := xM) (S := Finset.univ) (Finset.subset_univ _)) $$ Hx
  iintro Hx
  rw [wp_ret]; imodintro
  iapply (wp_load 𝒱₀ (c : Thread nD τ) none Set.univ (m := wM) (S := Finset.univ) (Finset.subset_univ _)) $$ Hw
  iintro Hw
  rw [wp_ret]; imodintro
  iapply (fill xs ws c none c rfl D g _ (k0_off1_eq c) (k0_off1_inb c) _ (congrArg₂ k0_pay1
    (Memref.readAt_unit_zero (Elt F) cc0_stg0_0 (by decide) _ _) (Memref.readAt_unit_zero (Elt F) cc0_stg1_0 (by decide) _ _)) Q)
  isplitl [Ho]; · iexact Ho
  iintro Ho
  iapply Hk $$ Hx Hw Ho

/-- Multiplying a landed slab: both its halves are held at some share. -/
theorem mul_step (c : Dev nD) (b : Slab) (q : PosShare TreeShare) (D : List (Option Slab)) (g : S1024x64.Idx → Elt F .f32) (Q : PUnit → sProp 𝕄) :
    iprop(land xs c (halfAt b 0) q ∗ land xs c (halfAt b 1) q ∗ wK ws c ∗ rK c ∗ lK c ∗ oK xs ws c D g
        ∗ (land xs c (halfAt b 0) q -∗ land xs c (halfAt b 1) q -∗ wK ws c -∗ rK c -∗ lK c -∗ oK xs ws c (some b :: D) g -∗ Q ⟨⟩))
      ⊢ wp frame (wpE (defs₀ (F := F)) 𝒱₀ (c : Thread nD τ) none) Set.univ (mulP b) Q := by
  rcases b with h | h
  · unfold mulP
    simp only [wp_bind]
    unfold wK rK halfAt
    iintro ⟨H0, H1, Hw, Hr, Hl, Ho, Hk⟩
    ihave H := (land2R xs c h q).1 $$ [H0 H1]
    · isplitl [H0] <;> iassumption
    iapply (wp_load 𝒱₀ (c : Thread nD τ) none Set.univ (m := crM) (slab_subR h)) $$ H
    iintro H
    ihave H2 := (land2R xs c h q).2 $$ H
    icases H2 with ⟨H0, H1⟩
    rw [wp_ret]; imodintro
    iapply (wp_load 𝒱₀ (c : Thread nD τ) none Set.univ (m := wM) (S := Finset.univ) (Finset.subset_univ _)) $$ Hw
    iintro Hw
    rw [wp_ret]; imodintro
    iapply (load_word rM c _ _ _ _ _ (read_rT c h) _) $$ Hr
    iintro Hr
    iapply (wp_assume 𝒱₀ (c : Thread nD τ) none Set.univ (chk3_word _))
    rw [wp_ret]; imodintro
    iapply (fill xs ws c (some (.inl h)) (org c (.inl h)) rfl D g _ (off2_word _) _ _ ((pay_slab _ _ _ (read_slabR xs c h)).trans
      (congrArg (k0_pay1 _) (Memref.readAt_unit_zero (Elt F) cc0_stg1_0 (by decide) _ _))) Q)
    isplitl [Ho]; · iexact Ho
    iintro Ho
    iapply Hk $$ H0 H1 Hw Hr Hl Ho
  · unfold mulP
    simp only [wp_bind]
    unfold wK lK halfAt
    iintro ⟨H0, H1, Hw, Hr, Hl, Ho, Hk⟩
    ihave H := (land2L xs c h q).1 $$ [H0 H1]
    · isplitl [H0] <;> iassumption
    iapply (wp_load 𝒱₀ (c : Thread nD τ) none Set.univ (m := clM) (slab_subL h)) $$ H
    iintro H
    ihave H2 := (land2L xs c h q).2 $$ H
    icases H2 with ⟨H0, H1⟩
    rw [wp_ret]; imodintro
    iapply (wp_load 𝒱₀ (c : Thread nD τ) none Set.univ (m := wM) (S := Finset.univ) (Finset.subset_univ _)) $$ Hw
    iintro Hw
    rw [wp_ret]; imodintro
    iapply (load_word lM c _ _ _ _ _ (read_lT c h) _) $$ Hl
    iintro Hl
    iapply (wp_assume 𝒱₀ (c : Thread nD τ) none Set.univ (chk3_word _))
    rw [wp_ret]; imodintro
    iapply (fill xs ws c (some (.inr h)) (org c (.inr h)) rfl D g _ (off2_word _) _ _ ((pay_slab _ _ _ (read_slabL xs c h)).trans
      (congrArg (k0_pay1 _) (Memref.readAt_unit_zero (Elt F) cc0_stg1_0 (by decide) _ _))) Q)
    isplitl [Ho]; · iexact Ho
    iintro Ho
    iapply Hk $$ H0 H1 Hw Hr Hl Ho

end Cert.KernelIdeal.Ring

end
-- ==== Proof.Run.lean ====
/- The whole body at one device: the barrier, the steps, and the cells closed again. -/
module

public import proofs.«01_k».proof.Proof.Mul

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Blk F) (ws : Dev nD → (S1024x64.Idx → Elt F .f32))

/-! ## The steps in order -/

/-- A device between two steps. -/
def Inv (K : GSem nD τ sig → ℕ) (c : Dev nD) (g : S1024x64.Idx → Elt F .f32) (σ : St) : sProp 𝕄 :=
  iprop(prot xs K c σ.S σ.V σ.E ∗ xK xs c ∗ wK ws c ∗ rK (F := F) c ∗ lK (F := F) c ∗ oK xs ws c σ.D g)

omit [FloatOps F] in
/-- A family is one member and the rest. -/
theorem erase_eq {I : Type} [DecidableEq I] {S : Finset I} {i : I} (Φ : I → sProp 𝕄) (hi : i ∈ S) :
    bigSep S Φ = iprop(Φ i ∗ bigSep (S.erase i) Φ) := bigSep_erase hi

omit [FloatOps F] in
/-- Two landed halves taken out, and put back. -/
theorem take_two (c : Dev nD) (V : List TI) (t t' : TI) (hne : t' ≠ t) (ht : t ∈ V) (ht' : t' ∈ V) :
    bigSep Finset.univ (rcvR xs c V) ⊢ iprop(land xs c t (keepq t) ∗ land xs c t' (keepq t')
      ∗ (land xs c t (keepq t) -∗ land xs c t' (keepq t') -∗ bigSep Finset.univ (rcvR xs c V))) := by
  have e (t₀ : TI) (h : t₀ ∈ V) : rcvR xs c V t₀ = iprop(atPos ER (rc c t₀) 1 ∅ 0 ∗ land xs c t₀ (keepq t₀)) := if_pos h
  iintro H
  ihave H2 := (bigSep_pick (Finset.mem_univ t)) $$ H
  icases H2 with ⟨H1, Hr⟩
  ihave H3 := (bigSep_pick (Finset.mem_erase.mpr ⟨hne, Finset.mem_univ t'⟩)) $$ Hr
  icases H3 with ⟨H2, Hr⟩
  ihave H1 := (Entails.of_eq (e t ht)) $$ H1
  ihave H2 := (Entails.of_eq (e t' ht')) $$ H2
  icases H1 with ⟨Ha, Hl⟩
  icases H2 with ⟨Ha', Hl'⟩
  isplitl [Hl]; · iexact Hl
  isplitl [Hl']; · iexact Hl'
  iintro Hl Hl'
  iapply (Entails.of_eq (erase_eq (rcvR xs c V) (Finset.mem_univ t)).symm)
  isplitl [Ha Hl]
  · iapply (Entails.of_eq (e t ht).symm); isplitl [Ha] <;> iassumption
  iapply (Entails.of_eq (erase_eq (rcvR xs c V) (Finset.mem_erase.mpr ⟨hne, Finset.mem_univ t'⟩)).symm)
  isplitl [Ha' Hl']
  · iapply (Entails.of_eq (e t' ht').symm); isplitl [Ha'] <;> iassumption
  iexact Hr

theorem keepq_half : ∀ b : Slab, keepq (halfAt b 1) = keepq (halfAt b 0) := by rintro (h | h) <;> rfl
theorem half_ne : ∀ b : Slab, halfAt b 1 ≠ halfAt b 0 := by decide

section Steps

variable (K : GSem nD τ sig → ℕ) (c : Dev nD) (g : S1024x64.Idx → Elt F .f32) (n : Nbrs) (hn : ∀ t, n.peer t = peerD c t)

include hn in
/-- Any step that may be taken. -/
theorem act_step (σ : St) (a : Act) (h : okP σ a) :
    Inv xs ws K c g σ ⊢ wp frame (wpE (defs₀ (F := F)) 𝒱₀ (c : Thread nD τ) none) Set.univ (actP n c a) fun _ => Inv xs ws K c g (next σ a) := by
  have fr (p : Prog (TpuEff nD τ sig (Elt F) Λ₀ .tc) PUnit) (P P' R : sProp 𝕄)
      (hp : P ⊢ wp frame (wpE (defs₀ (F := F)) 𝒱₀ (c : Thread nD τ) none) Set.univ p fun _ => P') :
      iprop(P ∗ R) ⊢ wp frame (wpE (defs₀ (F := F)) 𝒱₀ (c : Thread nD τ) none) Set.univ p fun _ => iprop(P' ∗ R) :=
    (sep_mono_left hp).trans (wp_frame_r _ _ _)
  cases a with
  | start t => exact fr _ _ _ _ (start_step xs K c n hn t σ.S σ.V σ.E h)
  | recv t => exact fr _ _ _ _ (recv_step xs K c t σ.S σ.V σ.E h)
  | drain t => exact fr _ _ _ _ (drain_step xs K c t σ.S σ.V σ.E h)
  | own =>
    unfold Inv
    iintro ⟨Hp, Hx, Hw, Hr, Hl, Ho⟩
    iapply (own_step xs ws c σ.D g)
    isplitl [Hx]; · iexact Hx
    isplitl [Hw]; · iexact Hw
    isplitl [Ho]; · iexact Ho
    iintro Hx Hw Ho
    isplitl [Hp]; · iexact Hp
    isplitl [Hx]; · iexact Hx
    isplitl [Hw]; · iexact Hw
    isplitl [Hr]; · iexact Hr
    isplitl [Hl]; · iexact Hl
    iexact Ho
  | mul b =>
    unfold Inv prot
    iintro ⟨⟨#HI, #Hlev, Hsnd, Hrcv, Hsrc, HO⟩, Hx, Hw, Hr, Hl, Ho⟩
    ihave H := (take_two xs c σ.V (halfAt b 0) (halfAt b 1) (half_ne b) h.1 h.2) $$ Hrcv
    icases H with ⟨H0, H1, Hrcv⟩
    rw [keepq_half b]
    iapply (mul_step xs ws c b (keepq (halfAt b 0)) σ.D g)
    isplitl [H0]; · iexact H0
    isplitl [H1]; · iexact H1
    isplitl [Hw]; · iexact Hw
    isplitl [Hr]; · iexact Hr
    isplitl [Hl]; · iexact Hl
    isplitl [Ho]; · iexact Ho
    iintro H0 H1 Hw Hr Hl Ho
    isplitl [Hsnd Hrcv Hsrc HO H0 H1]
    · isplitr; · iexact HI
      isplitr; · iexact Hlev
      isplitl [Hsnd]; · iexact Hsnd
      isplitl [Hrcv H0 H1]; · iapply Hrcv $$ H0 H1
      isplitl [Hsrc]; · iexact Hsrc
      iexact HO
    isplitl [Hx]; · iexact Hx
    isplitl [Hw]; · iexact Hw
    isplitl [Hr]; · iexact Hr
    isplitl [Hl]; · iexact Hl
    iexact Ho

include hn in
/-- A list of steps each of which may be taken where it stands. -/
theorem run_steps : ∀ (l : List Act) (σ : St), okAll σ l = true →
    Inv xs ws K c g σ ⊢ wp frame (wpE (defs₀ (F := F)) 𝒱₀ (c : Thread nD τ) none) Set.univ (runP n c l)
      fun _ => iprop(∃ σ', ⌜doneP σ'⌝ ∗ Inv xs ws K c g σ')
  | [], σ, h => by
    unfold runP
    iintro H
    rw [wp_ret]; imodintro
    iexists σ
    isplitr
    · ipureintro; exact of_decide_eq_true h
    iexact H
  | a :: l, σ, h => by
    unfold okAll at h
    rw [Bool.and_eq_true] at h
    show _ ⊢ wp frame (wpE (defs₀ (F := F)) 𝒱₀ (c : Thread nD τ) none) Set.univ (actP n c a >>= fun _ => runP n c l) _
    rw [wp_bind]
    exact (act_step xs ws K c g n hn σ a (of_decide_eq_true h.1)).trans (wp_mono _ _ _ fun _ => run_steps l (next σ a) h.2)

end Steps

/-! ## The buffers as their parts -/

omit [FloatOps F] in
/-- A buffer held whole is its parts, when they are disjoint and cover it. -/
theorem parts {ℓ : Loc nD τ sig} {T : Type} [Fintype T] (K : T → Finset (Idx ℓ)) (hd : ∀ t t' i, i ∈ K t → i ∈ K t' → t = t')
    (hc : ∀ i, ∃ t, i ∈ K t) (q : PosShare TreeShare) (f : Buf (Elt F) ℓ) :
    (ℓ ↦[Finset.univ]{q} f : sProp 𝕄) = bigSep Finset.univ fun t => (ℓ ↦[K t]{q} f : sProp 𝕄) := by
  rw [← pointsTo_biUnion Finset.univ K (fun t _ t' _ hne => Finset.disjoint_left.mpr fun i h h' => hne (hd t t' i h h'))]
  have e : Finset.univ.biUnion K = Finset.univ := Finset.eq_univ_iff_forall.mpr fun i => by
    obtain ⟨t, ht⟩ := hc i
    exact Finset.mem_biUnion.mpr ⟨t, Finset.mem_univ _, ht⟩
  rw [e]

theorem half_of (n : ℕ) (h : n < 64) : ∃ s : Fin 2, n / 32 = s.val := ⟨⟨n / 32, by omega⟩, rfl⟩

omit [FloatOps F] in
/-- A block held at a share is its two halves held so. -/
theorem halves (c : Dev nD) (q : PosShare TreeShare) (f : Buf (Elt F) (xM.view.loc (c : Thread nD τ))) :
    (xM.view.loc (c : Thread nD τ) ↦[Finset.univ]{q} f : sProp 𝕄)
      = bigSep Finset.univ fun s : Fin 2 => (xM.view.loc (c : Thread nD τ) ↦[(half xM s).view.set]{q} f : sProp 𝕄) :=
  parts (ℓ := xM.view.loc (c : Thread nD τ)) (fun s : Fin 2 => (half xM s).view.set)
    (fun s s' i h h' => Fin.ext (((mem_half s i).mp h).symm.trans ((mem_half s' i).mp h')))
    (fun i => (half_of _ ((i : S64x1024.Idx) 0).isLt).imp fun s hs => (mem_half s i).mpr hs) q f

omit [FloatOps F] in
/-- Either landing buffer is its slabs' halves. -/
theorem partsR (c : Dev nD) (f : Buf (Elt F) (crM.view.loc (c : Thread nD τ))) :
    (crM.view.loc (c : Thread nD τ) ↦[Finset.univ]{fullShare} f : sProp 𝕄)
      = bigSep Finset.univ fun p : Fin 8 × Fin 2 => (landAt c (.inl p) fullShare f : sProp 𝕄) :=
  parts (ℓ := crM.view.loc (c : Thread nD τ)) (fun p : Fin 8 × Fin 2 => setR p.1 p.2)
    (fun p p' i h h' => Prod.ext (((mem_dstR _ _ i).mp h).1.symm.trans ((mem_dstR _ _ i).mp h').1)
      (Fin.ext (((mem_dstR _ _ i).mp h).2.symm.trans ((mem_dstR _ _ i).mp h').2)))
    (fun i => (half_of _ ((i : S8x64x1024.Idx) 1).isLt).elim fun s hs => ⟨((i : S8x64x1024.Idx) 0, s), (mem_dstR _ s i).mpr ⟨rfl, hs⟩⟩) fullShare f
omit [FloatOps F] in
theorem partsL (c : Dev nD) (f : Buf (Elt F) (clM.view.loc (c : Thread nD τ))) :
    (clM.view.loc (c : Thread nD τ) ↦[Finset.univ]{fullShare} f : sProp 𝕄)
      = bigSep Finset.univ fun p : Fin 7 × Fin 2 => (landAt c (.inr p) fullShare f : sProp 𝕄) :=
  parts (ℓ := clM.view.loc (c : Thread nD τ)) (fun p : Fin 7 × Fin 2 => setL p.1 p.2)
    (fun p p' i h h' => Prod.ext (((mem_dstL _ _ i).mp h).1.symm.trans ((mem_dstL _ _ i).mp h').1)
      (Fin.ext (((mem_dstL _ _ i).mp h).2.symm.trans ((mem_dstL _ _ i).mp h').2)))
    (fun i => (half_of _ ((i : S7x64x1024.Idx) 1).isLt).elim fun s hs => ⟨((i : S7x64x1024.Idx) 0, s), (mem_dstL _ s i).mpr ⟨rfl, hs⟩⟩) fullShare f

omit [FloatOps F] in
/-- A family that is empty but at the first hop. -/
theorem first_only {m : ℕ} (Φ : Fin (m + 1) × Fin 2 → sProp 𝕄) :
    bigSep Finset.univ (fun p => if p.1 = 0 then Φ p else iprop(emp)) = bigSep Finset.univ fun s => Φ (0, s) := by
  rw [bigSep_univ_prod, erase_eq _ (Finset.mem_univ (0 : Fin (m + 1)))]
  have e : ∀ h ∈ Finset.univ.erase (0 : Fin (m + 1)),
      bigSep Finset.univ (fun s : Fin 2 => if (h, s).1 = 0 then Φ (h, s) else (iprop(emp) : sProp 𝕄)) = iprop(emp) := fun h hh =>
    (bigSep_congr fun s _ => if_neg (Finset.ne_of_mem_erase hh)).trans (bigSep_emp_const Finset.univ)
  rw [bigSep_congr e, show bigSep (Finset.univ.erase (0 : Fin (m + 1))) (fun _ => (iprop(emp) : sProp 𝕄)) = iprop(emp) from bigSep_emp_const _]
  refine BI.equiv_iff.mp ⟨(Laws.sep_emp (PROP := sProp 𝕄)).1.trans (Entails.of_eq ?_), (Entails.of_eq ?_).trans (Laws.sep_emp (PROP := sProp 𝕄)).2⟩
  · exact bigSep_congr fun s _ => if_pos rfl
  · exact bigSep_congr fun s _ => (if_pos rfl).symm

end Cert.KernelIdeal.Ring

end
-- ==== Proof.Whole.lean ====
/- The whole body at one device: the barrier, the steps, and the cells closed again. -/
module

public import proofs.«01_k».proof.Proof.Run

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Blk F) (ws : Dev nD → (S1024x64.Idx → Elt F .f32))

/-! ## What a device holds before the barrier -/

/-- A transfer at its sender, but for the place it lands in. -/
def sndP (c : Dev nD) (t : TI) : sProp 𝕄 :=
  iprop(dutyTok ER (sc c t) 0 true ∗ dutyTok ER (rc (peerD c t) t) 0 true ∗ atPos ER (sc c t) 0 ∅ 0 ∗ reached ER (sc c t) 0)
/-- A place a transfer lands in here, its cell open. -/
def own (c : Dev nD) (t : TI) : sProp 𝕄 := iprop((∃ f, landAt c t fullShare f) ∗ reached ER (rc c t) 0)

omit [FloatOps F] in
/-- What a device gives up is what the sender of the transfer gets. -/
theorem hand_from (c : Dev nD) (t : TI) : (hand (fromD c t) t : sProp 𝕄) = own c t := by
  unfold hand own; rw [peer_from]

omit [FloatOps F] in
/-- A device gives one ring's places to the device before it and the other's to the device after it. -/
theorem give (c : Dev nD) : (bigSep Finset.univ (own (F := F) c) : sProp 𝕄)
    = iprop(bigSep (onRing true) (hand (prv c)) ∗ bigSep (onRing false) (hand (nxt c))) := by
  have hu : (Finset.univ : Finset TI) = onRing true ∪ onRing false := by decide
  have h1 : bigSep (onRing true) (own (F := F) c) = bigSep (onRing true) (hand (prv c)) := bigSep_congr fun t ht => by
    rcases t with t | t
    · exact (hand_from c (.inl t)).symm
    · exact absurd (Finset.mem_filter.mp ht).2 Bool.false_ne_true
  have h2 : bigSep (onRing false) (own (F := F) c) = bigSep (onRing false) (hand (nxt c)) := bigSep_congr fun t ht => by
    rcases t with t | t
    · exact absurd (Finset.mem_filter.mp ht).2.symm Bool.false_ne_true
    · exact (hand_from c (.inr t)).symm
  rw [hu, bigSep_union (by decide), h1, h2]; rfl

/-- The ghost state of a device whose cells are open. -/
def opened (K : GSem nD τ sig → ℕ) (c : Dev nD) : sProp 𝕄 :=
  iprop(invs xs K ∗ atPos ER (bar c) 0 ∅ 0 ∗ reached ER (bar (prv c)) 0 ∗ reached ER (bar (nxt c)) 0
    ∗ dutyTok ER (bar (prv c)) 0 true ∗ dutyTok ER (bar (nxt c)) 0 false
    ∗ bigSep Finset.univ (sndP (F := F) c) ∗ bigSep Finset.univ (fun t => atPos ER (rc c t) 0 ∅ 0) ∗ bigSep Finset.univ (fun t => reached ER (rc c t) 0))
/-- The credits a device awaits with. -/
def creds (c : Dev nD) : sProp 𝕄 :=
  iprop(cred (tallyAt (bar c) () 2) ∗ bigSep Finset.univ (fun t => cred (tallyAt (rc c t) () N)))

/-- The landing buffers, at contents not chosen. -/
def landing (c : Dev nD) : sProp 𝕄 :=
  iprop((∃ f, crM.view.loc (c : Thread nD τ) ↦[Finset.univ]{fullShare} f) ∗ (∃ f, clM.view.loc (c : Thread nD τ) ↦[Finset.univ]{fullShare} f))
/-- The staged left operand. -/
def xF (c : Dev nD) : sProp 𝕄 := xM.view.loc (c : Thread nD τ) ↦[Finset.univ]{fullShare} xC xs c
/-- The staged result at given contents. -/
def oF (c : Dev nD) (g : S1024x64.Idx → Elt F .f32) : sProp 𝕄 := oM.view.loc (c : Thread nD τ) ↦[Finset.univ]{fullShare} g
/-- The staged operands and tables. -/
def stgs (c : Dev nD) : sProp 𝕄 := iprop(xF xs c ∗ wK ws c ∗ nbK (F := F) c ∗ rK (F := F) c ∗ lK (F := F) c)

omit [FloatOps F] in
theorem any_land {T : Type} [Fintype T] (c : Dev nD) (e : T → TI) (f : (p : T) → Buf (Elt F) ((dstV (e p)).view.loc (c : Thread nD τ))) :
    bigSep Finset.univ (fun p => landAt c (e p) fullShare (f p)) ⊢ (bigSep Finset.univ (fun p => iprop(∃ f, landAt c (e p) fullShare f)) : sProp 𝕄) :=
  bigSep_mono fun p _ => exists_intro (Φ := fun f => (landAt c (e p) fullShare f : sProp 𝕄)) (f p)
omit [FloatOps F] in
theorem landing_own (c : Dev nD) : landing (F := F) c ⊢ bigSep Finset.univ fun t => iprop(∃ f, landAt c t fullShare f) := by
  unfold landing
  rw [show bigSep Finset.univ (fun t : TI => (iprop(∃ f, landAt c t fullShare f) : sProp 𝕄))
    = iprop(bigSep Finset.univ (fun p => iprop(∃ f, landAt c (.inl p) fullShare f)) ∗ bigSep Finset.univ (fun p => iprop(∃ f, landAt c (.inr p) fullShare f)))
    from bigSep_univ_sum _]
  iintro ⟨⟨%f, Hr⟩, ⟨%g, Hl⟩⟩
  isplitl [Hr]
  · ihave Hr := (Entails.of_eq (partsR c f)) $$ Hr
    iapply (any_land c (fun p => .inl p) fun _ => f) $$ Hr
  · ihave Hl := (Entails.of_eq (partsL c g)) $$ Hl
    iapply (any_land c (fun p => .inr p) fun _ => g) $$ Hl

omit [FloatOps F] in
theorem land_landing (c : Dev nD) : bigSep Finset.univ (fun t => land xs c t fullShare) ⊢ landing (F := F) c := by
  unfold landing
  rw [show bigSep Finset.univ (fun t : TI => (land xs c t fullShare : sProp 𝕄))
    = iprop(bigSep Finset.univ (fun p => landAt c (.inl p) fullShare (comR xs c)) ∗ bigSep Finset.univ (fun p => landAt c (.inr p) fullShare (comL xs c)))
    from bigSep_univ_sum _, ← partsR, ← partsL]
  iintro ⟨Hr, Hl⟩
  isplitl [Hr]
  · iexists _; iexact Hr
  · iexists _; iexact Hl

omit [FloatOps F] in
/-- The sources there are at the start: the first hops', which hold the device's own block at two shares. -/
theorem srcs_first (c : Dev nD) : bigSep Finset.univ (srcR xs c [] [])
    = iprop((xM.view.loc (c : Thread nD τ) ↦[Finset.univ]{fullShare.left} xC xs c) ∗ (xM.view.loc (c : Thread nD τ) ↦[Finset.univ]{fullShare.right.left} xC xs c)) := by
  have hR (p : Fin 8 × Fin 2) : srcR xs c [] [] (.inl p) = if p.1 = 0 then srcP xs c (.inl p) else iprop(emp) := by
    unfold srcR
    rw [if_neg List.not_mem_nil]
    exact if_congr ⟨fun h => h.elim (fun h => of_decide_eq_true h) fun h => absurd h List.not_mem_nil, fun h => Or.inl (decide_eq_true h)⟩ rfl rfl
  have hL (p : Fin 7 × Fin 2) : srcR xs c [] [] (.inr p) = if p.1 = 0 then srcP xs c (.inr p) else iprop(emp) := by
    unfold srcR
    rw [if_neg List.not_mem_nil]
    exact if_congr ⟨fun h => h.elim (fun h => of_decide_eq_true h) fun h => absurd h List.not_mem_nil, fun h => Or.inl (decide_eq_true h)⟩ rfl rfl
  rw [bigSep_univ_sum, bigSep_congr fun p _ => hR p, bigSep_congr fun p _ => hL p, first_only fun p => srcP xs c (.inl p),
    first_only fun p => srcP xs c (.inr p), halves c fullShare.left (xC xs c), halves c fullShare.right.left (xC xs c)]
  rfl

omit [FloatOps F] in
/-- The staged left operand is those sources and the share the device loads at. -/
theorem x_split (c : Dev nD) : (xF xs c : sProp 𝕄) ⊣⊢ iprop(bigSep Finset.univ (srcR xs c [] []) ∗ xK xs c) := by
  rw [srcs_first]
  unfold xF xK
  constructor
  · iintro H
    ihave H := (pointsTo_share (PosShare.mem_left_op_right fullShare)).1 $$ H
    icases H with ⟨H1, H⟩
    ihave H := (pointsTo_share (PosShare.mem_left_op_right fullShare.right)).1 $$ H
    icases H with ⟨H2, H⟩
    isplitr [H]
    · isplitl [H1] <;> iassumption
    iexact H
  · iintro ⟨⟨H1, H2⟩, H⟩
    iapply (pointsTo_share (PosShare.mem_left_op_right fullShare)).2
    isplitl [H1]; · iexact H1
    iapply (pointsTo_share (PosShare.mem_left_op_right fullShare.right)).2
    isplitl [H2] <;> iassumption

omit [FloatOps F] in
/-- In the end, every landing is whole again and the first hops' sources are there. -/
theorem whole_again (c : Dev nD) : iprop(bigSep Finset.univ (fun t => srcP xs c t) ∗ bigSep Finset.univ (fun t => land xs c t (keepq t)))
    ⊢ iprop(bigSep Finset.univ (fun t => land xs c t fullShare) ∗ bigSep Finset.univ (srcR xs c [] [])) := by
  rw [bigSep_univ_equiv nxEquiv (fun t => srcP xs c t), bigSep_univ_equiv nxEquiv (srcR xs c [] [])]
  refine BIBase.Entails.trans (Entails.of_eq (bigSep_sep' _ _ _).symm) (BIBase.Entails.trans (bigSep_mono fun t _ => ?_) (Entails.of_eq (bigSep_sep' _ _ _)))
  show iprop(srcP xs c (nx t) ∗ land xs c t (keepq t)) ⊢ iprop(land xs c t fullShare ∗ srcR xs c [] [] (nx t))
  by_cases hl : isLast t = true
  · rw [show keepq t = fullShare from if_pos hl, show srcR xs c [] [] (nx t) = srcP xs c (nx t) from
      (if_neg List.not_mem_nil).trans (if_pos (Or.inl hl))]
    iintro ⟨H1, H2⟩
    isplitl [H2] <;> iassumption
  · have hl' : isLast t = false := by simpa using hl
    rw [show keepq t = fullShare.right from if_neg hl, srcP_nx xs c t hl', show srcR xs c [] [] (nx t) = iprop(emp) from
      (if_neg List.not_mem_nil).trans (if_neg fun h => h.elim (fun h => hl h) fun h => absurd h List.not_mem_nil)]
    unfold land landAt
    iintro ⟨H1, H2⟩
    isplitl
    · iapply (pointsTo_share (PosShare.mem_left_op_right fullShare)).2
      isplitl [H1] <;> iassumption
    iempintro

omit [FloatOps F] in
/-- A cell past its one round is closed: its counter back in hand at zero. -/
theorem close (κ : ℕ) (g : GSem nD τ sig) :
    iprop(cellInv ER (ringRd xs) κ g ∗ atPos ER g (0 + 1) ∅ 0) ⊢ (|={Set.univ}=> semVal g 0 : sProp 𝕄) :=
  Rounds.cell_close ER (ringRd xs) (Set.mem_univ κ) id (duties_later xs g)

omit [FloatOps F] in
/-- All of a device's cells of one kind closed. -/
theorem close_all (K : GSem nD τ sig → ℕ) (c : Dev nD) (k : Bool) :
    iprop(invs xs K ∗ bigSep Finset.univ (fun t => atPos ER ((c : Thread nD τ), osem (k, t)) 1 ∅ 0))
      ⊢ (|={Set.univ}=> bigSep Finset.univ (fun t => semVal ((c : Thread nD τ), osem (k, t)) 0) : sProp 𝕄) := by
  refine BIBase.Entails.trans ?_ (bigSep_fupd (E := Set.univ) Finset.univ (fun t => semVal ((c : Thread nD τ), osem (k, t)) 0))
  refine BI.bigSep_with_persistent fun t _ => ?_
  iintro ⟨HI, H⟩
  iapply (close xs (K ((c : Thread nD τ), osem (k, t))) ((c : Thread nD τ), osem (k, t)))
  isplitl [HI]; · iapply (invs_own xs K c (k, t)); iexact HI
  iexact H

/-- When every block is filled, the result is what it should be. -/
theorem outC_done (c : Dev nD) (D : List (Option Slab)) (g : S1024x64.Idx → Elt F .f32) (h0 : none ∈ D) (hR : ∀ h, some (Sum.inl h) ∈ D)
    (hL : ∀ h, some (Sum.inr h) ∈ D) : outC xs ws c D g = outv xs ws c := by
  funext i
  refine if_pos (List.any_eq_true.mpr ?_)
  obtain ⟨b, hb⟩ := rowOf_surj c (rowDev i)
  refine ⟨b, ?_, decide_eq_true hb⟩
  rcases b with _ | h | h
  · exact h0
  · exact hR h
  · exact hL h

/-! ## The run -/

/-- What the body starts with, and what it ends with. -/
def runPre (K : GSem nD τ sig → ℕ) (c : Dev nD) (g : S1024x64.Idx → Elt F .f32) (W : Waits sig Unit) : sProp 𝕄 :=
  iprop(opened xs K c ∗ creds c ∗ levAts L lv ∗ landing c ∗ stgs xs ws c ∗ oF c g ∗ owes (c : Thread nD τ) (O₀ c) W)
def runPost (c : Dev nD) : sProp 𝕄 :=
  iprop(semVal (bar c) 0 ∗ Pipeline.ownSems0 osem c ∗ landing c ∗ stgs xs ws c ∗ oF c (outv xs ws c)
    ∗ ∃ W, owes (c : Thread nD τ) (0 : CellTallies nD τ sig Unit) W)

omit [FloatOps F] in
theorem ownSems_eq (c : Dev nD) : (Pipeline.ownSems0 osem c : sProp 𝕄)
    = iprop(bigSep Finset.univ (fun t => semVal (rc c t) 0) ∗ bigSep Finset.univ (fun t => semVal (sc c t) 0)) := by
  unfold Pipeline.ownSems0
  rw [bigSep_univ_prod, bigSep_univ_eq_bigSepL [true, false] (by decide) (by decide)]
  rfl

theorem outC_nil (c : Dev nD) (g : S1024x64.Idx → Elt F .f32) : outC xs ws c [] g = g := by
  funext i; rfl

theorem chk1_word (o : Dev nD) : k0_chk1 (word o) := by revert o; decide
theorem chk2_word (o : Dev nD) : k0_chk2 (word o) := by revert o; decide
theorem dev1_word : ∀ o : Dev nD, k0_dev1 (word o) = o.val := by decide
theorem dev2_word : ∀ o : Dev nD, k0_dev2 (word o) = o.val := by decide

/-- The neighbours the body computes from its table. -/
def nbrs (c : Dev nD) : Nbrs := ⟨word (prv c), chk1_word _, word (nxt c), chk2_word _⟩
theorem nbrs_peer (c : Dev nD) (t : TI) : (nbrs c).peer t = peerD c t := by
  rcases t with t | t
  · exact Fin.ext (dev2_word (nxt c))
  · exact Fin.ext (dev1_word (prv c))

theorem read_nb0 (c : Dev nD) (x) : (nbM.access (Rect.unit (s := S2) ![0] S1.size inb_S2_S1_0)).read (Elt F) (nbT (F := F) c) x = word (prv c) := by
  have hx : (x 0).val < 1 := (x 0).isLt
  refine if_pos ((Rect.emb_apply _ _ _).trans ?_)
  show 0 + 1 * (x 0).val = 0
  omega
theorem read_nb1 (c : Dev nD) (x) : (nbM.access (Rect.unit (s := S2) ![1] S1.size inb_S2_S1_1)).read (Elt F) (nbT (F := F) c) x = word (nxt c) := by
  have hx : (x 0).val < 1 := (x 0).isLt
  refine if_neg fun h => ?_
  have h' : 1 + 1 * (x 0).val = 0 := (Rect.emb_apply _ _ _).symm.trans h
  omega

omit [FloatOps F] in
/-- With the places handed over, every transfer is ready to start at its sender. -/
theorem snd_first (c : Dev nD) : iprop(bigSep Finset.univ (sndP (F := F) c) ∗ bigSep Finset.univ (hand (F := F) c)) ⊢ bigSep Finset.univ (sndR xs c [] []) := by
  refine BIBase.Entails.trans (Entails.of_eq (bigSep_sep' _ _ _).symm) (bigSep_mono fun t _ => ?_)
  rw [show sndR xs c [] [] t = _ from (if_neg List.not_mem_nil).trans (if_neg List.not_mem_nil)]
  unfold sndP
  show iprop((dutyTok ER (sc c t) 0 true ∗ dutyTok ER (rc (peerD c t) t) 0 true ∗ atPos ER (sc c t) 0 ∅ 0 ∗ reached ER (sc c t) 0) ∗ hand c t)
    ⊢ (iprop(dutyTok ER (sc c t) 0 true ∗ dutyTok ER (rc (peerD c t) t) 0 true ∗ hand c t ∗ atPos ER (sc c t) 0 ∅ 0 ∗ reached ER (sc c t) 0) : sProp 𝕄)
  iintro ⟨⟨H1, H2, H3, H4⟩, H5⟩
  isplitl [H1]; · iexact H1
  isplitl [H2]; · iexact H2
  isplitl [H5]; · iexact H5
  isplitl [H3] <;> iassumption
omit [FloatOps F] in
theorem rcv_first (c : Dev nD) : iprop(bigSep Finset.univ (fun t => cred (tallyAt (rc c t) () N)) ∗ bigSep Finset.univ (fun t => atPos ER (rc c t) 0 ∅ 0))
    ⊢ bigSep Finset.univ (rcvR xs c []) := by
  refine BIBase.Entails.trans (Entails.of_eq (bigSep_sep' _ _ _).symm) (bigSep_mono fun t _ => ?_)
  rw [show rcvR xs c [] t = _ from if_neg List.not_mem_nil]
  exact (Entails.of_eq rfl : iprop(cred (tallyAt (rc c t) () N) ∗ atPos ER (rc c t) 0 ∅ 0) ⊢ (iprop(cred (tallyAt (rc c t) () N) ∗ atPos ER (rc c t) 0 ∅ 0) : sProp 𝕄))

omit [FloatOps F] in
/-- In the end, the senders' and the receivers' positions, the sources and what landed. -/
theorem all_done (c : Dev nD) (S V E : List TI) (hS : ∀ t, t ∈ S) (hV : ∀ t, t ∈ V) (hE : ∀ t, t ∈ E) :
    iprop(bigSep Finset.univ (sndR xs c S E) ∗ bigSep Finset.univ (rcvR xs c V))
      ⊢ iprop((bigSep Finset.univ (fun t => atPos ER (sc c t) 1 ∅ 0) ∗ bigSep Finset.univ (fun t => atPos ER (rc c t) 1 ∅ 0))
        ∗ (bigSep Finset.univ (fun t => srcP xs c t) ∗ bigSep Finset.univ (fun t => land xs c t (keepq t)))) := by
  rw [bigSep_congr fun t _ => show sndR xs c S E t = _ from if_pos (hE t), bigSep_congr fun t _ => show rcvR xs c V t = _ from if_pos (hV t),
    bigSep_sep', bigSep_sep']
  iintro ⟨⟨H1, H2⟩, ⟨H3, H4⟩⟩
  isplitl [H1 H3]
  · isplitl [H1] <;> iassumption
  isplitl [H2] <;> iassumption

/-- From the first step on: the steps, then every cell closed and every buffer whole again. -/
theorem run_end (K : GSem nD τ sig → ℕ) (c : Dev nD) (g : S1024x64.Idx → Elt F .f32) (Kt : PUnit → sProp 𝕄) :
    iprop(Inv xs ws K c g ⟨[], [], [], []⟩ ∗ (atPos ER (bar c) 1 ∅ 0 ∗ nbM.view.loc (c : Thread nD τ) ↦[Finset.univ]{fullShare} nbT (F := F) c)
        ∗ (runPost xs ws c -∗ Kt ⟨⟩)) ⊢ wp frame (wpE (defs₀ (F := F)) 𝒱₀ (c : Thread nD τ) none) Set.univ (runP (nbrs c) c acts) Kt := by
  refine BIBase.Entails.trans (Laws.sep_mono (run_steps xs ws K c g (nbrs c) (nbrs_peer c) acts ⟨[], [], [], []⟩ acts_ok) BIBase.Entails.rfl) ?_
  refine BIBase.Entails.trans (wp_frame_r _ _ _) ?_
  refine BIBase.Entails.trans ?_ (wp_fupd _ _ _ _ _)
  refine wp_mono _ _ _ fun _ => ?_
  iintro ⟨⟨%σ, %hd, Hinv⟩, ⟨HatB, Hnb⟩, Hk⟩
  obtain ⟨hall, hV, hE, h0, hR, hL⟩ := hd
  unfold Inv prot
  icases Hinv with ⟨⟨#HI, #Hlev, Hsnd, Hrcv, Hsrc, ⟨%W, HO⟩⟩, Hx, Hw, Hr, Hl, Ho⟩
  ihave H := (all_done xs c σ.S σ.V σ.E hall hV hE) $$ [Hsnd Hrcv]
  · isplitl [Hsnd] <;> iassumption
  icases H with ⟨⟨HatS, HatR⟩, Hbuf⟩
  ihave Hbuf := (whole_again xs c) $$ Hbuf
  icases Hbuf with ⟨Hland, Hsrc0⟩
  imod (close_all xs K c false) $$ [HatS] with Hs0
  · isplitr; · iexact HI
    iexact HatS
  imod (close_all xs K c true) $$ [HatR] with Hr0
  · isplitr; · iexact HI
    iexact HatR
  imod (close xs (K (bar c)) (bar c)) $$ [HatB] with Hb0
  · isplitr; · iapply (invs_bar xs K c); iexact HI
    iexact HatB
  imodintro
  iapply Hk
  unfold runPost
  isplitl [Hb0]; · iexact Hb0
  isplitl [Hs0 Hr0]
  · iapply (Entails.of_eq (ownSems_eq c).symm)
    isplitl [Hr0]; · iexact Hr0
    iexact Hs0
  isplitl [Hland]; · iapply (land_landing xs c); iexact Hland
  isplitl [Hx Hw Hnb Hr Hl Hsrc0]
  · unfold stgs nbK
    isplitl [Hx Hsrc0]
    · iapply (x_split xs c).2
      isplitl [Hsrc0]; · iexact Hsrc0
      iexact Hx
    isplitl [Hw]; · iexact Hw
    isplitl [Hnb]; · iexact Hnb
    isplitl [Hr] <;> iassumption
  isplitl [Ho]
  · unfold oK oF
    rw [outC_done xs ws c σ.D g h0 hR hL]
    iexact Ho
  rw [owedAfter_all c σ.S hall]
  iexists _; iexact HO

set_option maxHeartbeats 1000000 in
/-- The body, run from what the launch gives a device. -/
theorem ring_run (K : GSem nD τ sig → ℕ) (c : Dev nD) (g : S1024x64.Idx → Elt F .f32) (W : Waits sig Unit) (Kt : PUnit → sProp 𝕄) :
    iprop(runPre xs ws K c g W ∗ (runPost xs ws c -∗ Kt ⟨⟩))
      ⊢ wp frame (wpE (defs₀ (F := F)) 𝒱₀ (c : Thread nD τ) none) Set.univ (ringBody (F := F)) Kt := by
  unfold ringBody
  simp only [wp_bind]
  rw [show (Prog.lift .deviceId : Prog (TpuEff nD τ sig (Elt F) Λ₀ .tc) (Dev nD)) = .op .deviceId .ret from rfl, wp_deviceId]
  unfold runPre opened creds stgs oF
  iintro ⟨⟨⟨#HI, HatB, HrP, HrN, HtP, HtN, Hsnd, HatR, #HrR⟩, ⟨HcB, HcR⟩, #Hlev, Hland, ⟨Hx, Hw, Hnb, Hr, Hl⟩, Ho, HO⟩, Hk⟩
  rw [wp_ret]; imodintro
  unfold nbK
  iapply (load_word nbM c _ _ _ _ _ (read_nb0 c) _) $$ Hnb
  iintro Hnb
  iapply (wp_assume 𝒱₀ (c : Thread nD τ) none Set.univ (chk1_word _))
  rw [wp_ret]; imodintro
  iapply (load_word nbM c _ _ _ _ _ (read_nb1 c) _) $$ Hnb
  iintro Hnb
  iapply (wp_assume 𝒱₀ (c : Thread nD τ) none Set.univ (chk2_word _))
  rw [wp_ret]; imodintro
  simp only [show runP (F := F) ⟨word (prv c), chk1_word _, word (nxt c), chk2_word _⟩ c acts = runP (nbrs c) c acts from rfl]
  rw [show Nbrs.peer ⟨word (prv c), chk1_word _, word (nxt c), chk2_word _⟩ (.inr (0, 0)) = prv c from nbrs_peer c _,
    show Nbrs.peer ⟨word (prv c), chk1_word _, word (nxt c), chk2_word _⟩ (.inl (0, 0)) = nxt c from nbrs_peer c _]
  unfold semSignalWord semWaitWord
  rw [show (1#32 : BitVec 32).toInt = ((1 : ℕ) : ℤ) from by decide, show (2#32 : BitVec 32).toInt = ((2 : ℕ) : ℤ) from by decide]
  -- the landing places, all of one ring to the device before, all of the other's to the device after
  ihave Hland := (landing_own c) $$ Hland
  ihave Hown := (show iprop(bigSep Finset.univ (fun t => iprop(∃ f, landAt c t fullShare f)) ∗ bigSep Finset.univ (fun t => reached ER (rc c t) 0))
      ⊢ iprop(bigSep (onRing true) (hand (prv c)) ∗ bigSep (onRing false) (hand (nxt c))) from
    (Entails.of_eq ((bigSep_sep' _ _ _).symm.trans (give c)))) $$ [Hland]
  · isplitl [Hland]; · iexact Hland
    iexact HrR
  icases Hown with ⟨Hgp, Hgn⟩
  iapply (Rounds.wp_signal 𝒱₀ ER (ringRd xs) (c : Thread nD τ) none (dst := (prv c : Thread nD τ)) (sem := barS) (r := 0) (d := true) (κ := K (bar (prv c)))
      (by rw [duties_bar]; exact Finset.mem_univ _) (amount_bar xs (prv c) true) () (owedAfter c [] + tallyAt (bar (nxt c)) () 1) rfl)
    $$ [HO HtP Hgp HrP]
  · isplitr; · iapply (invs_bar xs K (prv c)); iexact HI
    isplitl [HO]; · iexact HO
    isplitl [HtP]; · iexact HtP
    isplitl [Hgp]; · rw [payload_bar]; iexact Hgp
    iexact HrP
  iintro HO
  rw [wp_ret]; imodintro
  iapply (Rounds.wp_signal 𝒱₀ ER (ringRd xs) (c : Thread nD τ) none (dst := (nxt c : Thread nD τ)) (sem := barS) (r := 0) (d := false) (κ := K (bar (nxt c)))
      (by rw [duties_bar]; exact Finset.mem_univ _) (amount_bar xs (nxt c) false) () (owedAfter c []) rfl)
    $$ [HO HtN Hgn HrN]
  · isplitr; · iapply (invs_bar xs K (nxt c)); iexact HI
    isplitl [HO]; · iexact HO
    isplitl [HtN]; · iexact HtN
    isplitl [Hgn]; · rw [payload_bar]; iexact Hgn
    iexact HrN
  iintro HO
  rw [wp_ret]; imodintro
  -- both neighbours have signalled: their places are this device's to send into
  iapply (Rounds.wp_wait_rest_token 𝒱₀ ER (ringRd xs) (c : Thread nD τ) none (κ := K (bar c))
      (wpE_semWait_eq 𝒱₀ (c : Thread nD τ) none Set.univ) (Set.mem_univ _) () (O := owedAfter c []) (W := W) (R := 0) (m := 0) (T := ∅)
      ((Nat.zero_add 2).trans (expect_bar xs c).symm)) $$ [HcB HO HatB]
  · isplitr; · iapply (invs_bar xs K c); iexact HI
    isplitl [HcB]; · iexact HcB
    isplitl [HO]; · iexact HO
    isplitr
    · iapply (mayWait c (.reg barS) [] (fun t _ => by
        rw [show lv ((c : Thread nD τ), .reg barS) () = 1 from lv_bar c ()]; omega))
      iexact Hlev
    iexact HatB
  iintro ⟨HO, HatB, -, Hpay⟩
  ihave Hhand := (Entails.of_eq (rest_bar xs c)) $$ Hpay
  rw [wp_ret]; imodintro
  -- the steps
  ihave Hx := (x_split xs c).1 $$ Hx
  icases Hx with ⟨Hsrc, Hx⟩
  iapply (show iprop(Inv xs ws K c g ⟨[], [], [], []⟩ ∗ (atPos ER (bar c) 1 ∅ 0 ∗ nbM.view.loc (c : Thread nD τ) ↦[Finset.univ]{fullShare} nbT (F := F) c)
        ∗ (runPost xs ws c -∗ Kt ⟨⟩)) ⊢ wp frame (wpE (defs₀ (F := F)) 𝒱₀ (c : Thread nD τ) none) Set.univ (runP (nbrs c) c acts) Kt from
    run_end xs ws K c g Kt)
  isplitr [HatB Hnb Hk]
  · unfold Inv prot oK
    rw [outC_nil]
    isplitr [Hx Hw Hr Hl Ho]
    · isplitr; · iexact HI
      isplitr; · iexact Hlev
      isplitl [Hsnd Hhand]
      · iapply (snd_first xs c)
        isplitl [Hsnd] <;> iassumption
      isplitl [HcR HatR]
      · iapply (rcv_first xs c)
        isplitl [HcR] <;> iassumption
      isplitl [Hsrc]; · iexact Hsrc
      iexists _; iexact HO
    isplitl [Hx]; · iexact Hx
    isplitl [Hw]; · iexact Hw
    isplitl [Hr]; · iexact Hr
    isplitl [Hl]; · iexact Hl
    iexact Ho
  isplitl [HatB Hnb]; · isplitl [HatB] <;> iassumption
  iexact Hk

end Cert.KernelIdeal.Ring

end
-- ==== Proof.Tables.lean ====
module

public import proofs.«01_k».proof.Proof.Whole
public import proofs.«01_k».proof.Proof.Gen.KernelIdeal.Regions
public import Idealize.ShloMosaic.Lib.StableHlo.RunRead

@[expose] public section

set_option maxRecDepth 4000

noncomputable section

namespace Cert.KernelIdeal.Ring

open Idealize.ShloMosaic Idealize.ShloMosaic.TcCoe Cert.KernelIdeal.Gen

variable {F : FTy → Type} [FloatOps F]
variable (m : (ℓ : Loc nD τ sig) → Buf (Elt F) ℓ)

/-- A device's word is what the quotient and the remainder of the partition's arithmetic leave of it. -/
theorem norm_word (c : Dev nD) : select
      (cmpi CmpIPredicate.slt
        (id (Host.remui (Host.divui (constantI S_ 32 (Dev.word c)) (constantI S_ 32 1#32)) (constantI S_ 32 16#32)))
        (constantI S_ 32 0#32))
      (addi (id (Host.remui (Host.divui (constantI S_ 32 (Dev.word c)) (constantI S_ 32 1#32)) (constantI S_ 32 16#32)))
        (constantI S_ 32 16#32))
      (id (Host.remui (Host.divui (constantI S_ 32 (Dev.word c)) (constantI S_ 32 1#32)) (constantI S_ 32 16#32))) =
    fun x => Dev.word c := by
  funext x
  obtain rfl : x = Shape.Idx.first h_S_ := by funext k; exact k.elim0
  revert c
  decide +kernel

omit [FloatOps F] in
/-- A slice of one element reads its only start. -/
theorem slice_at {α : Type} (x : S16.Idx → α) (v : (⟨S_, .i32⟩ : BufTy).Contents (Elt F)) :
    Host.dynamicSlice S1 x (fun k => BitVec.toInt ((Matrix.vecCons v Matrix.vecEmpty : Fin 1 → (⟨S_, .i32⟩ : BufTy).Contents (Elt F)) k (Shape.Idx.first h_S_))) sliceFits_S16_S1
      = Host.dynamicSlice S1 x (fun _ => BitVec.toInt (v (Shape.Idx.first h_S_))) sliceFits_S16_S1 :=
  congrArg (fun st => Host.dynamicSlice S1 x st sliceFits_S16_S1) (funext fun k => by obtain rfl := Subsingleton.elim k 0; rfl)

/-- The place in the ring that the partition's number names, looked up in the table of places. -/
def placeE (c : Dev nD) : S_.Idx → BitVec 32 :=
  shapeCast S_ (Host.dynamicSlice S1 (fun i => lit1 (S16.rowMajor i)) (fun _ => (Dev.word c).toInt) sliceFits_S16_S1) shapeCasts_S1_S_

/-- A signed remainder by sixteen brought into range, at any shape. -/
def wrapE {s : Shape} (k : s.Idx → BitVec 32) (z : s.Idx → BitVec 32) (v : s.Idx → BitVec 32) : s.Idx → BitVec 32 :=
  select (cmpi .slt (Host.remsi v k) z) (addi (Host.remsi v k) k) (Host.remsi v k)

/-- The device at a place of the ring, looked up in the ring's order. -/
def atE (v : S_.Idx → BitVec 32) : S_.Idx → BitVec 32 :=
  shapeCast S_ (Host.dynamicSlice S1 (fun i => lit0 (S16.rowMajor i)) (fun _ => (v (Shape.Idx.first h_S_)).toInt) sliceFits_S16_S1) shapeCasts_S1_S_

/-- The device one place on. -/
def nxtE (p : S_.Idx → BitVec 32) : S_.Idx → BitVec 32 :=
  atE (wrapE (constantI S_ 32 16#32) (constantI S_ 32 0#32) (addi p (constantI S_ 32 1#32)))

/-- The device one place back. -/
def prvE (p : S_.Idx → BitVec 32) : S_.Idx → BitVec 32 :=
  atE (wrapE (constantI S_ 32 16#32) (constantI S_ 32 0#32) (addi (subi p (constantI S_ 32 1#32)) (constantI S_ 32 16#32)))

/-- The devices at the eight places back. -/
def backE (p : S_.Idx → BitVec 32) : S8.Idx → BitVec 32 :=
  Host.gather gather_S16_S8x1_S8_n_0_n_n_0_1_1 (fun i => lit0 (S16.rowMajor i))
    (broadcastInDim S8x1 ![0] bcast_S8_S8x1_0
      (wrapE (broadcastInDim S8 ![] bcast_S_S8 (constantI S_ 32 16#32)) (broadcastInDim S8 ![] bcast_S_S8 (constantI S_ 32 0#32))
        (addi (subi (broadcastInDim S8 ![] bcast_S_S8 (subi p (constantI S_ 32 1#32))) (iotaInDim S8 32 0))
          (broadcastInDim S8 ![] bcast_S_S8 (constantI S_ 32 16#32)))))

/-- The devices at the seven places on. -/
def onE (p : S_.Idx → BitVec 32) : S7.Idx → BitVec 32 :=
  Host.gather gather_S16_S7x1_S7_n_0_n_n_0_1_1 (fun i => lit0 (S16.rowMajor i))
    (broadcastInDim S7x1 ![0] bcast_S7_S7x1_0
      (wrapE (broadcastInDim S7 ![] bcast_S_S7 (constantI S_ 32 16#32)) (broadcastInDim S7 ![] bcast_S_S7 (constantI S_ 32 0#32))
        (addi (broadcastInDim S7 ![] bcast_S_S7 (addi p (constantI S_ 32 1#32))) (iotaInDim S7 32 0))))

theorem placeE_eq (c : Dev nD) : placeE c = fun _ => lit1 c := by
  funext x
  obtain rfl : x = Shape.Idx.first h_S_ := by funext k; exact k.elim0
  revert c
  decide +kernel

theorem nxtE_eq (c : Dev nD) : nxtE (fun _ => lit1 c) = fun _ => word (nxt c) := by
  funext x
  obtain rfl : x = Shape.Idx.first h_S_ := by funext k; exact k.elim0
  revert c
  decide +kernel

theorem prvE_eq (c : Dev nD) : prvE (fun _ => lit1 c) = fun _ => word (prv c) := by
  funext x
  obtain rfl : x = Shape.Idx.first h_S_ := by funext k; exact k.elim0
  revert c
  decide +kernel

/-- A place of a row of eight. -/
def at8 (j : Fin 8) : S8.Idx := fun k => match k with | ⟨0, _⟩ => j
/-- A place of a row of seven. -/
def at7 (j : Fin 7) : S7.Idx := fun k => match k with | ⟨0, _⟩ => j

theorem at8_eta (i : S8.Idx) : i = at8 (i 0) := by funext k; fin_cases k; rfl
theorem at7_eta (i : S7.Idx) : i = at7 (i 0) := by funext k; fin_cases k; rfl

theorem backE_eq (c : Dev nD) (j : Fin 8) : backE (fun _ => lit1 c) (at8 j) = word (org c (.inl j)) := by
  revert c j
  decide +kernel

theorem onE_eq (c : Dev nD) (j : Fin 7) : onE (fun _ => lit1 c) (at7 j) = word (org c (.inr j)) := by
  revert c j
  decide +kernel

set_option maxHeartbeats 400000 in
theorem tab_v9 (c : Dev nD) : V1 m c main_v9 = placeE c := by
  unfold V1
  simp only [hostOps0]
  after_reads_simp [StableHlo.unaryIndexed_result_read, StableHlo.indexContents_cons, StableHlo.indexContents_empty]
  rw [norm_word]
  simp only [slice_at, cast_eq]
  rfl

set_option maxHeartbeats 400000 in
theorem tab_v14 (c : Dev nD) (p) (hp : V1 m c main_v9 = p) : V1 m c main_v14 = wrapE (constantI S_ 32 16#32) (constantI S_ 32 0#32) (addi p (constantI S_ 32 1#32)) := by
  unfold V1 at *
  simp only [hostOps0] at *
  revert hp
  after_reads_simp
  rintro rfl
  rfl

set_option maxHeartbeats 400000 in
theorem tab_v22 (c : Dev nD) (p) (hp : V1 m c main_v9 = p) : V1 m c main_v22 = wrapE (constantI S_ 32 16#32) (constantI S_ 32 0#32) (addi (subi p (constantI S_ 32 1#32)) (constantI S_ 32 16#32)) := by
  unfold V1 at *
  simp only [hostOps0] at *
  revert hp
  after_reads_simp
  rintro rfl
  rfl

set_option maxHeartbeats 400000 in
theorem tab_v42 (c : Dev nD) (p) (hp : V1 m c main_v9 = p) : V1 m c main_v42 = backE p := by
  unfold V1 at *
  simp only [hostOps0] at *
  revert hp
  after_reads_simp
  rintro rfl
  rfl

set_option maxHeartbeats 400000 in
theorem tab_v55 (c : Dev nD) (p) (hp : V1 m c main_v9 = p) : V1 m c main_v55 = onE p := by
  unfold V1 at *
  simp only [hostOps0] at *
  revert hp
  after_reads_simp
  rintro rfl
  rfl

set_option maxHeartbeats 400000 in
theorem tab_v25 (c : Dev nD) (p) (hp : V1 m c main_v24 = p) : V1 m c main_v25 = broadcastInDim S1 ![] bcast_S_S1 p := by
  unfold V1 at *
  simp only [hostOps0] at *
  revert hp
  after_reads_simp
  rintro rfl
  rfl

set_option maxHeartbeats 400000 in
theorem tab_v26 (c : Dev nD) (p) (hp : V1 m c main_v16 = p) : V1 m c main_v26 = broadcastInDim S1 ![] bcast_S_S1 p := by
  unfold V1 at *
  simp only [hostOps0] at *
  revert hp
  after_reads_simp
  rintro rfl
  rfl

set_option maxHeartbeats 400000 in
theorem tab_v16 (c : Dev nD) (p) (hp : V1 m c main_v14 = p) : V1 m c main_v16 = atE p := by
  unfold V1 at *
  simp only [hostOps0] at *
  after_reads_simp
  refine congrArg (fun st => shapeCast S_ (Host.dynamicSlice S1 (fun i => lit0 (S16.rowMajor i)) st sliceFits_S16_S1) shapeCasts_S1_S_) (funext fun k => ?_)
  obtain rfl := Subsingleton.elim k 0
  refine congrArg (fun v : S_.Idx → BitVec 32 => BitVec.toInt (v (Shape.Idx.first h_S_))) (Eq.trans ?_ hp)
  refine Eq.trans (cast_eq _ _) ?_
  show StableHlo.upto _ _ _ (Proc.devRef .tc main_v14) = _
  after_reads_simp

set_option maxHeartbeats 400000 in
theorem tab_v24 (c : Dev nD) (p) (hp : V1 m c main_v22 = p) : V1 m c main_v24 = atE p := by
  unfold V1 at *
  simp only [hostOps0] at *
  after_reads_simp
  refine congrArg (fun st => shapeCast S_ (Host.dynamicSlice S1 (fun i => lit0 (S16.rowMajor i)) st sliceFits_S16_S1) shapeCasts_S1_S_) (funext fun k => ?_)
  obtain rfl := Subsingleton.elim k 0
  refine congrArg (fun v : S_.Idx → BitVec 32 => BitVec.toInt (v (Shape.Idx.first h_S_))) (Eq.trans ?_ hp)
  refine Eq.trans (cast_eq _ _) ?_
  show StableHlo.upto _ _ _ (Proc.devRef .tc main_v22) = _
  after_reads_simp

set_option maxHeartbeats 400000 in
theorem tab_v27 (c : Dev nD) (a b) (ha : V1 m c main_v25 = a) (hb : V1 m c main_v26 = b) :
    V1 m c main_v27 = concatenate S2 0 [⟨S1, a⟩, ⟨S1, b⟩] concatenates_S1_S1_S2_d0 := by
  unfold V1 at *
  simp only [hostOps0] at *
  after_reads_simp
  refine congrArg₂ (fun a b => concatenate S2 0 [⟨S1, a⟩, ⟨S1, b⟩] concatenates_S1_S1_S2_d0) (Eq.trans ?_ ha) (Eq.trans ?_ hb)
  · after_reads_simp
  · after_reads_simp

/-- The row of neighbours the kernel is handed: the device before, then the device after. -/
theorem nb_table (c : Dev nD) : V1 m c main_v27 = nbT (F := F) c := by
  have p := tab_v9 m c
  rw [placeE_eq] at p
  have a := tab_v24 m c _ (tab_v22 m c _ p)
  have b := tab_v16 m c _ (tab_v14 m c _ p)
  have a' := tab_v25 m c _ (a.trans (prvE_eq c))
  have b' := tab_v26 m c _ (b.trans (nxtE_eq c))
  refine (tab_v27 m c _ _ a' b').trans ?_
  funext i
  generalize hj : i 0 = j
  obtain rfl : i = fun k => match k with | ⟨0, _⟩ => j := by funext k; fin_cases k; exact hj
  change Fin 2 at j
  fin_cases j <;> rfl

/-- The owners of the blocks that come the one way round. -/
theorem r_table (c : Dev nD) : V1 m c main_v42 = rT (F := F) c := by
  have p := tab_v9 m c
  rw [placeE_eq] at p
  refine (tab_v42 m c _ p).trans ?_
  funext i
  rw [at8_eta i]
  exact backE_eq c (i 0)

/-- The owners of the blocks that come the other way round. -/
theorem l_table (c : Dev nD) : V1 m c main_v55 = lT (F := F) c := by
  have p := tab_v9 m c
  rw [placeE_eq] at p
  refine (tab_v55 m c _ p).trans ?_
  funext i
  rw [at7_eta i]
  exact onE_eq c (i 0)

theorem arg0_kept (c : Dev nD) : V1 m c main_arg0 = m ((c : Thread nD τ).loc main_arg0) := by
  unfold V1
  simp only [hostOps0]
  after_reads_simp

theorem arg1_kept (c : Dev nD) : V1 m c main_arg1 = m ((c : Thread nD τ).loc main_arg1) := by
  unfold V1
  simp only [hostOps0]
  after_reads_simp

end Cert.KernelIdeal.Ring
-- ==== Proof.Launch.lean ====
/- The kernel's launch: what its windows hold, and the body run at its one point. -/
module

public import proofs.«01_k».proof.Proof.Whole
public import proofs.«01_k».proof.Proof.Tables
public import proofs.«01_k».proof.Proof.Gen.KernelIdeal.Points
public import Idealize.ShloMosaic.Lib.Pipeline.RegionTalk
public import Idealize.ShloMosaic.Lib.Pipeline.Value

@[expose] public section

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg BodyObligation cellOf)

variable {F : FTy → Type} [FloatOps F]

local notation "𝕄" => MT nD τ sig Unit (Elt F) ℕ UU ℕ

variable (m : (ℓ : Loc nD τ sig) → Buf (Elt F) ℓ)

/-! ## What the windows hold -/

/-- The blocks the devices are launched with. -/
def inX (c : Dev nD) : Blk F := m ((c : Thread nD τ).loc main_arg0)
def inW (c : Dev nD) : S1024x64.Idx → Elt F .f32 := m ((c : Thread nD τ).loc main_arg1)

/-- What the unscoped buffers hold once the host's operations are done. -/
@[irreducible] def hostV (c : Dev nD) : Valuation τ sig (Elt F) := V1 m c
theorem hostV_eq (c : Dev nD) : hostV m c = V1 m c := by unfold hostV; rfl
theorem hostV_0 (c : Dev nD) : hostV m c main_arg0 = inX m c := by rw [hostV_eq]; exact arg0_kept m c
theorem hostV_1 (c : Dev nD) : hostV m c main_arg1 = inW m c := by rw [hostV_eq]; exact arg1_kept m c
theorem hostV_2 (c : Dev nD) : hostV m c main_v27 = nbT (F := F) c := by rw [hostV_eq]; exact nb_table m c
theorem hostV_3 (c : Dev nD) : hostV m c main_v42 = rT (F := F) c := by rw [hostV_eq]; exact r_table m c
theorem hostV_4 (c : Dev nD) : hostV m c main_v55 = lT (F := F) c := by rw [hostV_eq]; exact l_table m c

/-- What the staging buffers hold once the body is done. -/
def leaves (c : Dev nD) : (w : Fin 6) → (win0 w).block.Idx → Elt F (win0 w).elt
  | 0 => inX m c
  | 1 => inW m c
  | 2 => nbT (F := F) c
  | 3 => rT (F := F) c
  | 4 => lT (F := F) c
  | 5 => outv (inX m) (inW m) c
  | ⟨_ + 6, h⟩ => absurd h (Nat.not_lt.2 (Nat.le_add_left _ _))

/-- What a device enters the body with. -/
def start (c : Dev nD) : sProp 𝕄 := iprop((∃ K, opened (inX m) K c) ∗ creds c ∗ levAts L lv)

/-- The launch's data: the arrays as the host leaves them; before the body the open cells, after it all closed. -/
def dat0 (c : Dev nD) : Dat τ (Elt F) Unit ℕ UU ℕ cfg0 c where
  A w := hostV m c (Proc.devRef .tc (Pipeline.arrRef spec0 w))
  after w _ := leaves m c w
  Φ t := if t.val = 0 then iprop(start m c ∗ landing c ∗ ∃ r, prngReg c r)
    else iprop((semVal (bar c) 0 ∗ Pipeline.ownSems0 osem c) ∗ landing c ∗ ∃ r, prngReg c r)
  q _ := fullShare
  owed t := if t.val = 0 then O₀ c else 0

theorem emb_rect (w : Pipeline.Window sig grid0) (t : Fin grid0.N) (h : ∀ a, w.index t a = 0) (y : (w.xblock (grid0.coords t)).Idx) (z : w.shape.Idx)
    (hz : ∀ a, (z a).val = (y a).val) : (w.rect t).emb y = z :=
  funext fun a => Fin.ext ((Pipeline.Window.rect_emb_val_of_index_zero w t a (h a) y).trans (hz a).symm)

omit [FloatOps F] in
theorem staged_0 {c : Dev nD} (dat : Dat τ (Elt F) Unit ℕ UU ℕ cfg0 c) (d) : dat.before (0 : Fin 6) t0_0 d = dat.A (0 : Fin 6) := by
  unfold Dat.before; rw [if_pos (fetch0_0 _)]
  funext j
  unfold Dat.fetched Pipeline.Window.fill
  refine (dif_pos (show (win0_0).moved (grid0.coords t0_0) j = true from rfl)).trans ?_
  exact congrArg (dat.A (0 : Fin 6)) (emb_rect win0_0 t0_0 (fun _ => rfl) _ j fun _ => rfl)
omit [FloatOps F] in
theorem staged_1 {c : Dev nD} (dat : Dat τ (Elt F) Unit ℕ UU ℕ cfg0 c) (d) : dat.before (1 : Fin 6) t0_0 d = dat.A (1 : Fin 6) := by
  unfold Dat.before; rw [if_pos (fetch0_1 _)]
  funext j
  unfold Dat.fetched Pipeline.Window.fill
  refine (dif_pos (show (win0_1).moved (grid0.coords t0_0) j = true from rfl)).trans ?_
  exact congrArg (dat.A (1 : Fin 6)) (emb_rect win0_1 t0_0 (fun _ => rfl) _ j fun _ => rfl)
omit [FloatOps F] in
theorem staged_2 {c : Dev nD} (dat : Dat τ (Elt F) Unit ℕ UU ℕ cfg0 c) (d) : dat.before (2 : Fin 6) t0_0 d = dat.A (2 : Fin 6) := by
  unfold Dat.before; rw [if_pos (fetch0_2 _)]
  funext j
  unfold Dat.fetched Pipeline.Window.fill
  refine (dif_pos (show (win0_2).moved (grid0.coords t0_0) j = true from rfl)).trans ?_
  exact congrArg (dat.A (2 : Fin 6)) (emb_rect win0_2 t0_0 (fun _ => rfl) _ j fun _ => rfl)
omit [FloatOps F] in
theorem staged_3 {c : Dev nD} (dat : Dat τ (Elt F) Unit ℕ UU ℕ cfg0 c) (d) : dat.before (3 : Fin 6) t0_0 d = dat.A (3 : Fin 6) := by
  unfold Dat.before; rw [if_pos (fetch0_3 _)]
  funext j
  unfold Dat.fetched Pipeline.Window.fill
  refine (dif_pos (show (win0_3).moved (grid0.coords t0_0) j = true from rfl)).trans ?_
  exact congrArg (dat.A (3 : Fin 6)) (emb_rect win0_3 t0_0 (fun _ => rfl) _ j fun _ => rfl)
omit [FloatOps F] in
theorem staged_4 {c : Dev nD} (dat : Dat τ (Elt F) Unit ℕ UU ℕ cfg0 c) (d) : dat.before (4 : Fin 6) t0_0 d = dat.A (4 : Fin 6) := by
  unfold Dat.before; rw [if_pos (fetch0_4 _)]
  funext j
  unfold Dat.fetched Pipeline.Window.fill
  refine (dif_pos (show (win0_4).moved (grid0.coords t0_0) j = true from rfl)).trans ?_
  exact congrArg (dat.A (4 : Fin 6)) (emb_rect win0_4 t0_0 (fun _ => rfl) _ j fun _ => rfl)

theorem before_0 (c : Dev nD) (d) : (dat0 m c).before (0 : Fin 6) t0_0 d = leaves m c (0 : Fin 6) := (staged_0 (dat0 m c) d).trans (hostV_0 m c)
theorem before_1 (c : Dev nD) (d) : (dat0 m c).before (1 : Fin 6) t0_0 d = leaves m c (1 : Fin 6) := (staged_1 (dat0 m c) d).trans (hostV_1 m c)
theorem before_2 (c : Dev nD) (d) : (dat0 m c).before (2 : Fin 6) t0_0 d = leaves m c (2 : Fin 6) := (staged_2 (dat0 m c) d).trans (hostV_2 m c)
theorem before_3 (c : Dev nD) (d) : (dat0 m c).before (3 : Fin 6) t0_0 d = leaves m c (3 : Fin 6) := (staged_3 (dat0 m c) d).trans (hostV_3 m c)
theorem before_4 (c : Dev nD) (d) : (dat0 m c).before (4 : Fin 6) t0_0 d = leaves m c (4 : Fin 6) := (staged_4 (dat0 m c) d).trans (hostV_4 m c)

/-- The result's array after the body: what the staged result holds. -/
theorem out_at (c : Dev nD) : (dat0 m c).arrAt (5 : Fin 6) cfg0.N = outv (inX m) (inW m) c := by
  rw [show cfg0.N = (t0_0 : Fin grid0.N).val + 1 from N_0]
  refine ((dat0 m c).arrAt_succ (5 : Fin 6) t0_0).trans ?_
  rw [if_pos (flush0_5 _)]
  funext i
  have e : ((win0 5).blk t0_0).view.emb i = i := emb_rect win0_5 t0_0 (fun _ => rfl) _ i fun _ => rfl
  refine (congrArg _ e.symm).trans ?_
  rw [View.write_emb_of_mem _ _ (Finset.mem_univ _)]
  rfl

/-! ## The body at its one point -/

section Owes

variable {c : Dev nD} (dat : Dat τ (Elt F) Unit ℕ UU ℕ cfg0 c)

omit [FloatOps F] in
theorem owes_into (t : Fin (cfg0.N + 1)) (O : CellTallies nD τ sig Unit) (W : Waits sig Unit) (h : dat.owed t = O) (hr : dat.recorded t = Set.univ) :
    (owes (c : Thread nD τ) O W : sProp 𝕄) ⊢ dat.owesAt () t := by
  unfold Dat.owesAt Pipeline.owesWithin Dat.bound
  rw [h, hr]
  iintro HO
  iexists W
  isplitr
  · ipureintro; exact fun _ _ => Or.inl trivial
  iexact HO
omit [FloatOps F] in
theorem owes_outof (t : Fin (cfg0.N + 1)) (O : CellTallies nD τ sig Unit) (h : dat.owed t = O) :
    dat.owesAt () t ⊢ (iprop(∃ W, owes (c : Thread nD τ) O W) : sProp 𝕄) := by
  unfold Dat.owesAt Pipeline.owesWithin
  rw [h]
  iintro ⟨%W, -, HO⟩
  iexists W
  iexact HO

end Owes

theorem owed_first (c : Dev nD) (t : Fin (cfg0.N + 1)) (h : t.val = 0) : (dat0 m c).owed t = O₀ c := by
  show (if t.val = 0 then O₀ c else 0) = O₀ c
  exact if_pos h
theorem owed_last (c : Dev nD) (t : Fin (cfg0.N + 1)) (h : t.val ≠ 0) : (dat0 m c).owed t = 0 := by
  show (if t.val = 0 then O₀ c else 0) = 0
  exact if_neg h
theorem phi_first (c : Dev nD) (t : Fin (cfg0.N + 1)) (h : t.val = 0) :
    (dat0 m c).Φ t = iprop(start m c ∗ landing c ∗ ∃ r, prngReg c r) := by
  show (if t.val = 0 then _ else _) = _
  exact if_pos h
theorem phi_last (c : Dev nD) (t : Fin (cfg0.N + 1)) (h : t.val ≠ 0) :
    (dat0 m c).Φ t = iprop((semVal (bar c) 0 ∗ Pipeline.ownSems0 osem c) ∗ landing c ∗ ∃ r, prngReg c r) := by
  show (if t.val = 0 then _ else _) = _
  exact if_neg h

section Staged

variable (c : Dev nD)

omit [FloatOps F] in
theorem stg_0 (X : S64x1024.Idx → Elt F .f32) : (owns (c : Thread nD τ) (st0_0 t0_0) fullShare X : sProp 𝕄) = (xM.view.loc (c : Thread nD τ) ↦[Finset.univ]{fullShare} X) :=
  owns_whole (c : Thread nD τ) cc0_stg0_0 fullShare X
omit [FloatOps F] in
theorem stg_1 (X : S1024x64.Idx → Elt F .f32) : (owns (c : Thread nD τ) (st0_1 t0_0) fullShare X : sProp 𝕄) = (wM.view.loc (c : Thread nD τ) ↦[Finset.univ]{fullShare} X) :=
  owns_whole (c : Thread nD τ) cc0_stg1_0 fullShare X
omit [FloatOps F] in
theorem stg_2 (X : S2.Idx → Elt F .i32) : (owns (c : Thread nD τ) (st0_2 t0_0) fullShare X : sProp 𝕄) = (nbM.view.loc (c : Thread nD τ) ↦[Finset.univ]{fullShare} X) :=
  owns_whole (c : Thread nD τ) cc0_stg2_0 fullShare X
omit [FloatOps F] in
theorem stg_3 (X : S8.Idx → Elt F .i32) : (owns (c : Thread nD τ) (st0_3 t0_0) fullShare X : sProp 𝕄) = (rM.view.loc (c : Thread nD τ) ↦[Finset.univ]{fullShare} X) :=
  owns_whole (c : Thread nD τ) cc0_stg3_0 fullShare X
omit [FloatOps F] in
theorem stg_4 (X : S7.Idx → Elt F .i32) : (owns (c : Thread nD τ) (st0_4 t0_0) fullShare X : sProp 𝕄) = (lM.view.loc (c : Thread nD τ) ↦[Finset.univ]{fullShare} X) :=
  owns_whole (c : Thread nD τ) cc0_stg4_0 fullShare X
omit [FloatOps F] in
theorem stg_5 (X : S1024x64.Idx → Elt F .f32) : (owns (c : Thread nD τ) (st0_5 t0_0) fullShare X : sProp 𝕄) = (oM.view.loc (c : Thread nD τ) ↦[Finset.univ]{fullShare} X) :=
  owns_whole (c : Thread nD τ) cc0_stg5_0 fullShare X

end Staged

/-- What the pipeline hands the body, window by window. -/
theorem handed (c : Dev nD) :
    bigSep Finset.univ (fun w : Fin 6 => iprop(∃ d, owns (c : Thread nD τ) ((cfg0.win w).stage (cfg0.slots t0_0 w)) fullShare ((dat0 m c).before w t0_0 d)))
      ⊢ (iprop(stgs (inX m) (inW m) c ∗ ∃ g, oF c g) : sProp 𝕄) := by
  rw [bigSep_W0]
  unfold stgs xF wK nbK rK lK oF
  iintro ⟨⟨%d0, H0⟩, ⟨%d1, H1⟩, ⟨%d2, H2⟩, ⟨%d3, H3⟩, ⟨%d4, H4⟩, ⟨%d5, H5⟩⟩
  isplitr [H5]
  · isplitl [H0]; · iapply (Entails.of_eq ((congrArg _ (before_0 m c d0)).trans (stg_0 c (inX m c)))); iexact H0
    isplitl [H1]; · iapply (Entails.of_eq ((congrArg _ (before_1 m c d1)).trans (stg_1 c (inW m c)))); iexact H1
    isplitl [H2]; · iapply (Entails.of_eq ((congrArg _ (before_2 m c d2)).trans (stg_2 c (nbT c)))); iexact H2
    isplitl [H3]; · iapply (Entails.of_eq ((congrArg _ (before_3 m c d3)).trans (stg_3 c (rT c)))); iexact H3
    iapply (Entails.of_eq ((congrArg _ (before_4 m c d4)).trans (stg_4 c (lT c)))); iexact H4
  iexists _
  iapply (Entails.of_eq (stg_5 c _)); iexact H5

/-- What the body hands the pipeline back. -/
theorem handed_back (c : Dev nD) :
    iprop(stgs (inX m) (inW m) c ∗ oF c (outv (inX m) (inW m) c))
      ⊢ (bigSep Finset.univ (fun w : Fin 6 => owns (c : Thread nD τ) ((cfg0.win w).stage (cfg0.slots t0_0 w)) fullShare ((dat0 m c).after w t0_0)) : sProp 𝕄) := by
  rw [bigSep_W0]
  unfold stgs xF wK nbK rK lK oF
  iintro ⟨⟨H0, H1, H2, H3, H4⟩, H5⟩
  isplitl [H0]; · iapply (Entails.of_eq (stg_0 c (inX m c)).symm); iexact H0
  isplitl [H1]; · iapply (Entails.of_eq (stg_1 c (inW m c)).symm); iexact H1
  isplitl [H2]; · iapply (Entails.of_eq (stg_2 c (nbT c)).symm); iexact H2
  isplitl [H3]; · iapply (Entails.of_eq (stg_3 c (rT c)).symm); iexact H3
  isplitl [H4]; · iapply (Entails.of_eq (stg_4 c (lT c)).symm); iexact H4
  iapply (Entails.of_eq (stg_5 c _).symm); iexact H5

/-- The body, called at its one point, meets what the pipeline asks of it. -/
theorem body_ok (c : Dev nD) : BodyObligation (dat0 m c) (defs₀ (F := F)) 𝒱₀ () Set.univ := fun t => by
  obtain rfl := fin_N0 t
  rw [phi_first m c _ rfl, phi_last m c _ (Nat.succ_ne_zero _)]
  unfold start
  iintro ⟨⟨⟨⟨%K, HK⟩, Hcr, Hlev⟩, Hland, Hp⟩, HO, Hw⟩
  ihave HO := (owes_outof (dat0 m c) _ (O₀ c) (owed_first m c _ rfl)) $$ HO
  icases HO with ⟨%W, HO⟩
  ihave Hw := (handed m c) $$ Hw
  icases Hw with ⟨Hst, ⟨%g, Ho⟩⟩
  iapply ((ring_run (inX m) (inW m) K c g W _).trans (Entails.of_eq rfl))
  isplitr [Hp]
  · unfold runPre
    isplitl [HK]; · iexact HK
    isplitl [Hcr]; · iexact Hcr
    isplitl [Hlev]; · iexact Hlev
    isplitl [Hland]; · iexact Hland
    isplitl [Hst]; · iexact Hst
    isplitl [Ho] <;> iassumption
  unfold runPost
  iintro ⟨Hb, Hos, Hland, Hst, Ho, ⟨%W', HO⟩⟩
  isplitl [Hb Hos Hland Hp]
  · isplitl [Hb Hos]
    · isplitl [Hb] <;> iassumption
    isplitl [Hland] <;> iassumption
  isplitl [HO]
  · iapply (owes_into (dat0 m c) _ 0 W' (owed_last m c _ (Nat.succ_ne_zero _)) rfl); iexact HO
  iapply (handed_back m c)
  isplitl [Hst] <;> iassumption

end Cert.KernelIdeal.Ring

end
-- ==== Proof.Region.lean ====
/- The kernel's region: its ghost state, how the cells open, and the record of its entry and exit. -/
module

public import proofs.«01_k».proof.Proof.Launch
public import proofs.«01_k».proof.Proof.Gen.KernelIdeal.Regions

@[expose] public section

set_option maxRecDepth 1144

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg BodyObligation cellOf)

variable {F : FTy → Type} [FloatOps F]

local notation "𝕄" => MT nD τ sig Unit (Elt F) ℕ UU ℕ

/-! ## Opening the cells -/

/-- The tokens of the duties of a device's own transfers. -/
def payP (c : Dev nD) (t : TI) : sProp 𝕄 := iprop(dutyTok ER (sc c t) 0 true ∗ dutyTok ER (rc (peerD c t) t) 0 true)

/-- What of the ghost state only its device holds: its place at its barrier, the right to open its own cells, and the tokens of
    the duties it does. -/
def linear (c : Dev nD) : sProp 𝕄 :=
  iprop(atPos ER (bar c) 0 ∅ 0 ∗ bigSep Finset.univ (fun k : Bool × TI => openTok ER ((c : Thread nD τ), osem k))
    ∗ dutyTok ER (bar (prv c)) 0 true ∗ dutyTok ER (bar (nxt c)) 0 false ∗ bigSep Finset.univ (payP (F := F) c))

/-- The ghost state of a device at the launch, its own cells still closed. -/
def ghost (xs : Dev nD → Blk F) (K : GSem nD τ sig → ℕ) (c : Dev nD) : sProp 𝕄 :=
  iprop(invs xs K ∗ reached ER (bar (prv c)) 0 ∗ reached ER (bar (nxt c)) 0 ∗ linear c)

section Open

variable (xs : Dev nD → Blk F)

omit [FloatOps F] in
/-- All of a device's own cells opened. -/
theorem open_all (K : GSem nD τ sig → ℕ) (c : Dev nD) :
    iprop(invs xs K ∗ bigSep Finset.univ (fun k : Bool × TI => iprop(openTok ER ((c : Thread nD τ), osem k) ∗ semVal ((c : Thread nD τ), osem k) 0)))
      ⊢ (|={Set.univ}=> bigSep Finset.univ (fun k : Bool × TI => iprop(atPos ER ((c : Thread nD τ), osem k) 0 ∅ 0 ∗ reached ER ((c : Thread nD τ), osem k) 0)) : sProp 𝕄) := by
  refine BIBase.Entails.trans ?_ (bigSep_fupd (E := Set.univ) Finset.univ _)
  refine BI.bigSep_with_persistent fun k _ => ?_
  iintro ⟨HI, Ho, Hv⟩
  iapply (Rounds.cell_open ER (ringRd xs) (g := ((c : Thread nD τ), osem k)) (Set.mem_univ (K ((c : Thread nD τ), osem k))))
  isplitl [HI]; · iapply (invs_own xs K c k); iexact HI
  isplitl [Ho] <;> iassumption

omit [FloatOps F] in
/-- A family over both kinds of a device's own cells, kind by kind. -/
theorem by_kind (Φ : Bool × TI → sProp 𝕄) :
    bigSep Finset.univ Φ = iprop(bigSep Finset.univ (fun t => Φ (true, t)) ∗ bigSep Finset.univ (fun t => Φ (false, t))) := by
  rw [bigSep_univ_prod, bigSep_univ_eq_bigSepL [true, false] (by decide) (by decide)]
  rfl

omit [FloatOps F] in
theorem to_send (c : Dev nD) :
    iprop(bigSep Finset.univ (payP (F := F) c) ∗ bigSep Finset.univ (fun t => iprop(atPos ER (sc c t) 0 ∅ 0 ∗ reached ER (sc c t) 0)))
      ⊢ (bigSep Finset.univ (sndP (F := F) c) : sProp 𝕄) := by
  refine BIBase.Entails.trans (Entails.of_eq (bigSep_sep' _ _ _).symm) (bigSep_mono fun t _ => ?_)
  show (iprop((dutyTok ER (sc c t) 0 true ∗ dutyTok ER (rc (peerD c t) t) 0 true) ∗ atPos ER (sc c t) 0 ∅ 0 ∗ reached ER (sc c t) 0) : sProp 𝕄)
    ⊢ iprop(dutyTok ER (sc c t) 0 true ∗ dutyTok ER (rc (peerD c t) t) 0 true ∗ atPos ER (sc c t) 0 ∅ 0 ∗ reached ER (sc c t) 0)
  iintro ⟨⟨H1, H2⟩, H3, H4⟩
  isplitl [H1]; · iexact H1
  isplitl [H2]; · iexact H2
  isplitl [H3] <;> iassumption

omit [FloatOps F] in
theorem open_ghost (K : GSem nD τ sig → ℕ) (c : Dev nD) :
    iprop(ghost xs K c ∗ Pipeline.ownSems0 osem c) ⊢ (|={Set.univ}=> opened xs K c : sProp 𝕄) := by
  unfold ghost linear Pipeline.ownSems0
  iintro ⟨⟨#HI, HrP, HrN, Hat, Ho, HtP, HtN, Hpay⟩, Hv⟩
  imod (open_all xs K c) $$ [Ho Hv] with H
  · isplitr; · iexact HI
    iapply (Entails.of_eq (bigSep_sep' _ _ _).symm)
    isplitl [Ho] <;> iassumption
  imodintro
  ihave H := (Entails.of_eq (by_kind _)) $$ H
  icases H with ⟨HR, HS⟩
  ihave HR := (Entails.of_eq (bigSep_sep' _ _ _)) $$ HR
  icases HR with ⟨HR1, HR2⟩
  unfold opened
  isplitr; · iexact HI
  isplitl [Hat]; · iexact Hat
  isplitl [HrP]; · iexact HrP
  isplitl [HrN]; · iexact HrN
  isplitl [HtP]; · iexact HtP
  isplitl [HtN]; · iexact HtN
  isplitl [Hpay HS]
  · iapply (to_send c)
    isplitl [Hpay]; · iexact Hpay
    iexact HS
  isplitl [HR1]; · iexact HR1
  iexact HR2

end Open

/-! ## The region -/

variable (m : (ℓ : Loc nD τ sig) → Buf (Elt F) ℓ)

/-- What the unscoped buffers hold once the kernel is done. -/
def lastV (c : Dev nD) : Valuation τ sig (Elt F) := Function.update (hostV m c) main_v56 (outv (inX m) (inW m) c)

theorem lastV_out (c : Dev nD) : lastV m c main_v56 = outv (inX m) (inW m) c := Function.update_self _ _ _
theorem lastV_ne (c : Dev nD) (b : DevRef τ sig) (h : b ≠ Proc.devRef .tc main_v56) : lastV m c b = hostV m c b := Function.update_of_ne h _ _

/-- What the launch keeps for the region. -/
def kept (c : Dev nD) : sProp 𝕄 := iprop((∃ K, ghost (inX m) K c) ∗ creds c)

theorem kept_open (c : Dev nD) : iprop(kept m c ∗ Pipeline.ownSems0 osem c ∗ levAts L lv) ⊢ (|={Set.univ}=> start m c : sProp 𝕄) := by
  unfold kept start
  iintro ⟨⟨⟨%K, HK⟩, Hcr⟩, Hv, Hlev⟩
  imod (open_ghost (inX m) K c) $$ [HK Hv] with H
  · isplitl [HK] <;> iassumption
  imodintro
  isplitl [H]; · iexists K; iexact H
  isplitl [Hcr] <;> iassumption

abbrev pdats : (p : Fin 1) → (c : Dev nD) → Dat τ (Elt F) Unit ℕ UU ℕ (cfgs p) c := fun _ c => dat0 m c

theorem enter (c : Dev nD) :
    iprop(Pipeline.scopedRest spec0 c ∗ (∃ r, prngReg c r) ∗ StableHlo.held (c.tc : Thread nD τ) (∅ : Finset (DevRef τ sig)) (hostV m c) ∗ start m c)
      ⊢ (dat0 m c).Φ 0 := by
  rw [phi_first m c 0 rfl, scopedRest0_eq]
  unfold landing
  iintro ⟨Hs, Hp, -, Hst⟩
  isplitl [Hst]; · iexact Hst
  isplitl [Hs]; · iexact Hs
  iexact Hp

theorem N_ne : (Fin.last cfg0.N).val ≠ 0 := by rw [Fin.val_last, show cfg0.N = 1 from N_0]; decide

theorem leave (c : Dev nD) : (dat0 m c).Φ (Fin.last cfg0.N)
    ⊢ iprop(Pipeline.scopedRest spec0 c ∗ (∃ r, prngReg c r) ∗ StableHlo.held (c.tc : Thread nD τ) (∅ : Finset (DevRef τ sig)) (lastV m c)
      ∗ Pipeline.ownSems0 osem c ∗ semVal (bar c) 0) := by
  rw [phi_last m c _ N_ne, scopedRest0_eq]
  unfold landing StableHlo.held
  rw [BI.bigSep_empty]
  iintro ⟨⟨Hb, Hos⟩, Hs, Hp⟩
  isplitl [Hs]; · iexact Hs
  isplitl [Hp]; · iexact Hp
  isplitr; · iempintro
  isplitl [Hos] <;> iassumption

omit [FloatOps F] in
theorem launchFacts : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨t, -, rfl⟩ := owed_cell c [] g u h
      exact ⟨by rw [L_tc]; exact Finset.mem_singleton_self _, by rw [lv_rc]; omega⟩
    · rw [tallyAt_apply] at h
      split at h
      · next hg =>
        obtain rfl := hg.1
        exact ⟨by rw [L_tc]; exact Finset.mem_singleton_self _, by rw [lv_bar]; omega⟩
      · exact absurd h (Nat.lt_irrefl 0)
  · rw [tallyAt_apply] at h
    split at h
    · next hg =>
      obtain rfl := hg.1
      exact ⟨by rw [L_tc]; exact Finset.mem_singleton_self _, by rw [lv_bar]; omega⟩
    · exact absurd h (Nat.lt_irrefl 0)

theorem owed_above (c : Dev nD) (t : Fin (cfg0.N + 1)) (g : GSem nD τ sig) (u : Unit) (h : 0 < (dat0 m c).owed t g u) : u ∈ L g ∧ 0 < lv g u := by
  by_cases ht : t.val = 0
  · rw [owed_first m c t ht] at h; exact owed_pos h
  · rw [owed_last m c t ht] at h; exact absurd h (Nat.lt_irrefl 0)

theorem stage_sem_ne : ∀ (w : Fin 6) (s : Fin (win0 w).nbuf) (t : TI), sR t ≠ (win0 w).sem s := by decide

/-- The buffers no window carries. -/
def restRefs : Finset (DevRef τ sig) := Pipeline.ucRefs τ sig \ Pipeline.arrRefs (τ := τ) spec0

theorem arr_first (c : Dev nD) (w : Fin 6) : (dat0 m c).arrAt w 0 = hostV m c (Proc.devRef .tc (Pipeline.arrRef spec0 w)) := rfl

theorem arr_in (c : Dev nD) (w : Fin 6) (hin : (win0 w).isOut = false) (hne : Pipeline.arrRef spec0 w ≠ main_v56) :
    (dat0 m c).arrAt w cfg0.N = lastV m c (Proc.devRef .tc (Pipeline.arrRef spec0 w)) :=
  ((dat0 m c).arrAt_in w hin _).trans (lastV_ne m c _ (StableHlo.devRef_ne_of_ne hne)).symm

theorem arr_last (c : Dev nD) : ∀ w : Fin 6, (dat0 m c).arrAt w cfg0.N = lastV m c (Proc.devRef .tc (Pipeline.arrRef spec0 w))
  | 0 => arr_in m c 0 rfl (by decide)
  | 1 => arr_in m c 1 rfl (by decide)
  | 2 => arr_in m c 2 rfl (by decide)
  | 3 => arr_in m c 3 rfl (by decide)
  | 4 => arr_in m c 4 rfl (by decide)
  | 5 => (out_at m c).trans (lastV_out m c).symm
  | ⟨_ + 6, h⟩ => absurd h (Nat.not_lt.2 (Nat.le_add_left _ _))

theorem rest_kept (c : Dev nD) : ∀ b ∈ restRefs \ ∅, lastV m c b = hostV m c b := fun b hb => by
  refine lastV_ne m c b fun e => ?_
  have h := (Finset.mem_sdiff.mp (Finset.mem_sdiff.mp hb).1).2
  refine h (e ▸ ?_)
  exact Finset.mem_map.mpr ⟨main_v56, Finset.mem_image.mpr ⟨(5 : Fin 6), Finset.mem_univ _, rfl⟩, rfl⟩

set_option backward.isDefEq.respectTransparency.types false in
/-- The region's record. -/
def reg0 : RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restRefs (Finset.empty_subset _) launchFacts rfl (fun c => (body_ok m c).loose)
    (fun _ => 0) O₀ (fun c => (owed_first m c 0 rfl).trans (zero_add _).symm) (fun c => owed_last m c _ N_ne) (fun _ => rfl)
    (fun c w => ite_self _)
    (hostV m) (lastV m) (rest_kept m)
    (kept m) (fun c => semVal (bar c) 0) (start m) (fun c => semVal (bar c) 0) (kept_open m) (enter m) (leave m)
    (fun c => by iintro H; imodintro; iexact H)
    (fun _ => 0)
    ⟨fun c w s => by rw [L_tc]; exact Finset.mem_singleton_self _, fun c w s => (lv_dma c _ (stage_sem_ne w s) ()).le, fun c t g i h => owed_above m c t g i h⟩
    (fun _ => iprop(emp)) (arr_first m) (arr_last m)

/-! ## Between the host's operations and the region -/

theorem held_parts (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) restRefs W) :=
  StableHlo.held_sub_split (c.tc : Thread nD τ) (Pipeline.arrRefs_sub_ucRefs spec0 winFacts0.arr_unscoped) W

/-- What a device has besides its buffers, before the region and after it. -/
def around (j : Fin 2) (c : Dev nD) : sProp 𝕄 :=
  if j = 0 then iprop(kept m c ∗ (∃ r, prngReg c r) ∗ ∃ W, owes (c : Thread nD τ) (O₀ c) W)
  else iprop(semVal (bar c) 0 ∗ ∃ W, owes (c : Thread nD τ) (0 : CellTallies nD τ sig Unit) W)

theorem reg0_pre (c : Dev nD) : iprop(StableHlo.held (c : Thread nD τ) (Pipeline.ucRefs τ sig) (V1 m c) ∗ around m 0 c) ⊢ (reg0 m).pre c := by
  show _ ⊢ (iprop(StableHlo.held (c.tc : Thread nD τ) (Pipeline.arrRefs (τ := τ) spec0) (hostV m c) ∗ (∃ r, prngReg c r)
    ∗ (StableHlo.held (c.tc : Thread nD τ) restRefs (hostV m c) ∗ emp) ∗ kept m c ∗ ∃ Wd, owes (c : Thread nD τ) (0 + O₀ c) Wd) : sProp 𝕄)
  rw [← hostV_eq m c, held_parts, zero_add]
  unfold around
  rw [if_pos rfl]
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

theorem reg0_post (c : Dev nD) : (reg0 m).post c
    ⊢ iprop(StableHlo.held (c : Thread nD τ) (Pipeline.ucRefs τ sig) (lastV m c) ∗ around m 1 c) := by
  show (iprop(StableHlo.held (c.tc : Thread nD τ) (Pipeline.arrRefs (τ := τ) spec0) (lastV m c) ∗ (∃ r, prngReg c r)
    ∗ (StableHlo.held (c.tc : Thread nD τ) restRefs (lastV m c) ∗ emp) ∗ semVal (bar c) 0 ∗ ∃ Wd, owes (c : Thread nD τ) (0 : CellTallies nD τ sig Unit) Wd) : sProp 𝕄) ⊢ _
  rw [held_parts]
  unfold around
  rw [if_neg (by decide)]
  iintro ⟨Ha, -, ⟨Hr, -⟩, Hb, HO⟩
  isplitl [Ha Hr]
  · isplitl [Ha] <;> iassumption
  isplitl [Hb] <;> iassumption

end Cert.KernelIdeal.Ring

end
-- ==== Proof.Init.lean ====
/- The launch: every cell's invariant allocated, and the tokens, credits and records dealt to the devices. -/
module

public import proofs.«01_k».proof.Proof.Region

@[expose] public section

set_option maxRecDepth 1144

noncomputable section

namespace Cert.KernelIdeal.Ring

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg BodyObligation cellOf)

variable {F : FTy → Type} [FloatOps F]

local notation "𝕄" => MT nD τ sig Unit (Elt F) ℕ UU ℕ

/-! ## The launch credit -/

/-- What `d` owes the barrier of `c`: a unit if `c` is the one after it and a unit if `c` is the one before it. -/
theorem owed_bar (d c : Dev nD) : O₀ d (bar c) () = (if d = prv c then 1 else 0) + if d = nxt c then 1 else 0 := by
  unfold O₀
  rw [Pi.add_apply, Finsupp.add_apply, Pi.add_apply, Finsupp.add_apply]
  have h0 : owedAfter d [] (bar c) () = 0 := Nat.eq_zero_of_not_pos fun h => by
    obtain ⟨t, -, e⟩ := owed_cell d [] (bar c) () h
    exact dma_ne_bar (sR t) (congrArg Prod.snd e).symm
  have hb (a b : Dev nD) : (bar a = bar b) ↔ a = b := ⟨fun e => barEmb.injective e, fun e => by rw [e]⟩
  have h1 : (bar c = bar (nxt d) ∧ () = ()) ↔ d = prv c :=
    ⟨fun h => by rw [(hb _ _).mp h.1, prv_nxt], fun h => ⟨by rw [h, nxt_prv], rfl⟩⟩
  have h2 : (bar c = bar (prv d) ∧ () = ()) ↔ d = nxt c :=
    ⟨fun h => by rw [(hb _ _).mp h.1, nxt_prv], fun h => ⟨by rw [h, prv_nxt], rfl⟩⟩
  rw [h0, tallyAt_apply, tallyAt_apply, if_congr h1 rfl rfl, if_congr h2 rfl rfl, Nat.zero_add]

/-- What `d` owes a receiving cell of `c`: a transfer's credit, if `d` is who sends it. -/
theorem owed_rcv (d c : Dev nD) (t : TI) : O₀ d (rc c t) () = if d = fromD c t then N else 0 := by
  unfold O₀
  rw [Pi.add_apply, Finsupp.add_apply, Pi.add_apply, Finsupp.add_apply,
    tallyAt_ne_cell (fun h => dma_ne_bar (sR t) (congrArg Prod.snd h)), tallyAt_ne_cell (fun h => dma_ne_bar (sR t) (congrArg Prod.snd h)),
    Finsupp.zero_apply, Nat.add_zero, Nat.add_zero]
  unfold owedAfter
  rw [Finset.sum_apply, Finsupp.finset_sum_apply, Finset.sum_eq_single t]
  · rw [tallyAt_apply]
    refine if_congr ⟨fun h => ?_, fun h => ⟨by rw [h, peer_from], rfl⟩⟩ rfl rfl
    have e : c = peerD d t := congrArg (fun g : GSem nD τ sig => g.1.1) h.1
    rw [e, from_peer]
  · intro t' _ hne
    rw [tallyAt_apply]
    exact if_neg fun h => hne (sR_inj _ _ (SemLoc.dma.inj (congrArg Prod.snd h.1))).symm
  · intro h
    exact (h (by simp)).elim

theorem credit_bar (c : Dev nD) :
    tallyOn (bar c) (launchCredit (Pipeline.owing O₀) 0 (bar c)) = (tallyAt (bar c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem credit_rcv (c : Dev nD) (t : TI) :
    tallyOn (rc c t) (launchCredit (Pipeline.owing O₀) 0 (rc c t)) = (tallyAt (rc c t) () N : CellTallies nD τ sig Unit) := by
  unfold tallyAt
  refine congrArg _ (Finsupp.ext fun u => ?_)
  cases u
  rw [Pipeline.launchCredit_owing, Finsupp.single_eq_same, Finset.sum_congr rfl fun d _ => owed_rcv d c t,
    Finset.sum_ite_eq' Finset.univ (fromD c t) fun _ => N, if_pos (Finset.mem_univ _)]

/-- The receiving semaphores. -/
def rcvEmb : TI ↪ SemLoc sig := ⟨fun t => .dma (sR t), fun t t' h => sR_inj t t' (SemLoc.dma.inj h)⟩

omit [FloatOps F] in
theorem launch_creds (c : Dev nD) : (Pipeline.launchCred O₀ c : sProp 𝕄) ⊢ creds c := by
  unfold Pipeline.launchCred creds
  rw [bigSep_univ_at _ (SemLoc.reg barS), credit_bar]
  refine sep_mono_right ?_
  refine BIBase.Entails.trans (bigSep_subset (t := Finset.univ.map rcvEmb) fun sm h => ?_) (Entails.of_eq ?_)
  · obtain ⟨t, -, rfl⟩ := Finset.mem_map.mp h
    exact Finset.mem_erase.mpr ⟨dma_ne_bar _, Finset.mem_univ _⟩
  · rw [bigSep_map]
    exact bigSep_congr fun t _ => congrArg cred (credit_rcv c t)

/-! ## The tokens -/

/-- All duties: the two of every barrier and the one of every other cell. -/
def tokEmb : Dev nD × (Bool ⊕ Bool × TI) ↪ GSem nD τ sig × ℕ × Bool :=
  ⟨fun p => p.2.elim (fun d => (bar p.1, 0, d)) fun k => (((p.1 : Thread nD τ), osem k), 0, true), by
    rintro ⟨c, d | k⟩ ⟨c', d' | k'⟩ h
    · have h1 : c = c' := congrArg (fun x : GSem nD τ sig × ℕ × Bool => x.1.1.1) h
      have h2 : d = d' := congrArg (fun x : GSem nD τ sig × ℕ × Bool => x.2.2) h
      rw [h1, h2]
    · exact absurd (congrArg (fun x : GSem nD τ sig × ℕ × Bool => x.1.2) h).symm (osem_ne_bar k')
    · exact absurd (congrArg (fun x : GSem nD τ sig × ℕ × Bool => x.1.2) h) (osem_ne_bar k)
    · have h1 : c = c' := congrArg (fun x : GSem nD τ sig × ℕ × Bool => x.1.1.1) h
      have h2 : k = k' := osem_inj (congrArg (fun x : GSem nD τ sig × ℕ × Bool => x.1.2) h)
      rw [h1, h2]⟩
def toks : Finset (GSem nD τ sig × ℕ × Bool) := Finset.univ.map tokEmb

/-- A receiving cell by who sends to it. -/
def sender : Dev nD × TI ≃ Dev nD × TI :=
  ⟨fun p => (peerD p.1 p.2, p.2), fun p => (fromD p.1 p.2, p.2), fun p => by simp only [from_peer], fun p => by simp only [peer_from]⟩

/-- The tokens of a device's own cells. -/
def cellToks (c : Dev nD) : sProp 𝕄 :=
  iprop((dutyTok ER (bar c) 0 true ∗ dutyTok ER (bar c) 0 false)
    ∗ bigSep Finset.univ (fun t => dutyTok ER (rc c t) 0 true) ∗ bigSep Finset.univ (fun t => dutyTok ER (sc c t) 0 true))

omit [FloatOps F] in
theorem toks_cells : (bigSep toks (fun x => dutyTok ER x.1 x.2.1 x.2.2) : sProp 𝕄) = bigSep Finset.univ (cellToks (F := F)) := by
  unfold toks
  rw [bigSep_map, bigSep_univ_prod]
  refine bigSep_congr fun c _ => ?_
  rw [bigSep_univ_sum, bigSep_univ_eq_bigSepL [true, false] (by decide) (by decide), by_kind]
  rfl

/-- The tokens of the duties a device does. -/
def dutyToks (c : Dev nD) : sProp 𝕄 :=
  iprop(dutyTok ER (bar (prv c)) 0 true ∗ dutyTok ER (bar (nxt c)) 0 false ∗ bigSep Finset.univ (payP (F := F) c))

omit [FloatOps F] in
/-- Every token handed to who does the duty. -/
theorem toks_dealt : (bigSep Finset.univ (cellToks (F := F)) : sProp 𝕄) ⊢ bigSep Finset.univ (dutyToks (F := F)) := by
  have hr : (bigSep Finset.univ fun c : Dev nD => bigSep Finset.univ fun t : TI => dutyTok ER (rc c t) 0 true : sProp 𝕄)
      = bigSep Finset.univ fun c : Dev nD => bigSep Finset.univ fun t : TI => dutyTok ER (rc (peerD c t) t) 0 true := by
    rw [← bigSep_univ_prod fun p : Dev nD × TI => (dutyTok ER (rc p.1 p.2) 0 true : sProp 𝕄),
      ← bigSep_univ_prod fun p : Dev nD × TI => (dutyTok ER (rc (peerD p.1 p.2) p.2) 0 true : sProp 𝕄),
      bigSep_univ_equiv sender fun p : Dev nD × TI => (dutyTok ER (rc p.1 p.2) 0 true : sProp 𝕄)]
    rfl
  have ht : (bigSep Finset.univ fun c : Dev nD => dutyTok ER (bar c) 0 true : sProp 𝕄) = bigSep Finset.univ fun c : Dev nD => dutyTok ER (bar (prv c)) 0 true :=
    bigSep_univ_equiv cycle.symm fun c : Dev nD => (dutyTok ER (bar c) 0 true : sProp 𝕄)
  have hf : (bigSep Finset.univ fun c : Dev nD => dutyTok ER (bar c) 0 false : sProp 𝕄) = bigSep Finset.univ fun c : Dev nD => dutyTok ER (bar (nxt c)) 0 false :=
    bigSep_univ_equiv cycle fun c : Dev nD => (dutyTok ER (bar c) 0 false : sProp 𝕄)
  unfold cellToks dutyToks payP
  rw [bigSep_sep', bigSep_sep', bigSep_sep', hr, ht, hf, bigSep_sep', bigSep_sep']
  rw [bigSep_congr fun c _ => bigSep_sep' _ _ _, bigSep_sep']
  iintro ⟨⟨H1, H2⟩, H3, H4⟩
  isplitl [H1]; · iexact H1
  isplitl [H2]; · iexact H2
  isplitl [H4] <;> iassumption

/-! ## The launch -/

variable (m : (ℓ : Loc nD τ sig) → Buf (Elt F) ℓ) (ρ : Dev nD → PrngReg)

/-- The launch element. -/
def u₀ : UU := (initOf (Pipeline.cells cfgs cellOf_inj) (Pipeline.launchToks cfgs cellOf_inj), launchOf barCells ownCells toks)

/-- A resource held by one device. -/
def atDev (d : Dev nD) (X : sProp 𝕄) (c : Dev nD) : sProp 𝕄 := if c = d then X else iprop(emp)

omit [FloatOps F] in
theorem bigSep_atDev (d : Dev nD) (X : sProp 𝕄) : bigSep Finset.univ (atDev d X) = X := by
  have h : bigSep (Finset.univ.erase d) (atDev d X) = (BI.emp : sProp 𝕄) := by
    rw [bigSep_congr (Φ := atDev d X) (Ψ := fun _ => (BI.emp : sProp 𝕄)) fun c hc => by
      unfold atDev; exact if_neg (Finset.ne_of_mem_erase hc), BI.bigSep_emp_const]
  rw [bigSep_univ_at _ d, h, show atDev d X d = X from if_pos rfl]
  exact BI.equiv_iff.mp sep_emp

/-- The ring's launch element, held by the first device until it is used. -/
def G : Dev nD → sProp 𝕄 := atDev 0 (BI.own (ER (launchOf barCells ownCells toks)))

omit [FloatOps F] in
theorem bigSep_G : (bigSep Finset.univ (G (F := F)) : sProp 𝕄) = BI.own (ER (launchOf barCells ownCells toks)) := bigSep_atDev 0 _

/-- What every device may look up: all invariants, and that every barrier is open. -/
def records (κ : GSem nD τ sig → ℕ) : sProp 𝕄 := iprop(invs (inX m) κ ∗ bigSep barCells fun g => reached ER g 0)
instance records_persistent (κ : GSem nD τ sig → ℕ) : BI.Persistent (records m κ) := by unfold records; infer_instance

omit [FloatOps F] in
theorem reached_bar (c : Dev nD) : (bigSep barCells fun g => (reached ER g 0 : sProp 𝕄)) ⊢ reached ER (bar c) 0 :=
  bigSep_elim (Finset.mem_map_of_mem barEmb (Finset.mem_univ c))

/-- What of a device's launch is not the ring's ghost state. -/
def bundle (c : Dev nD) : sProp 𝕄 := iprop(creds c ∗ owes (c : Thread nD τ) (O₀ c) ∅ ∗ ∃ r, prngReg c r)

theorem around_intro (κ : GSem nD τ sig → ℕ) (c : Dev nD) : iprop(records m κ ∗ (linear c ∗ bundle c)) ⊢ around m 0 c := by
  unfold around
  rw [if_pos rfl]
  unfold records bundle kept ghost
  iintro ⟨⟨#HI, #HR⟩, Hl, Hc, HO, Hp⟩
  isplitl [Hl Hc]
  · isplitl [Hl]
    · iexists κ
      isplitr; · iexact HI
      isplitr; · iapply (reached_bar (F := F) (prv c)); iexact HR
      isplitr; · iapply (reached_bar (F := F) (nxt c)); iexact HR
      iexact Hl
    iexact Hc
  isplitl [Hp]; · iexact Hp
  iexists ∅; iexact HO

omit [FloatOps F] in
theorem sems_bar (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

omit [FloatOps F] in
theorem per_device (c : Dev nD) :
    iprop(unscopedSems0 c ∗ owes (c : Thread nD τ) (O₀ c) ∅ ∗ Pipeline.launchCred O₀ c ∗ prngReg c (ρ c) ∗ G (F := F) c)
      ⊢ (iprop(bundle c ∗ (semVal (bar c) 0 ∗ G c)) : sProp 𝕄) := by
  unfold bundle
  iintro ⟨Hs, HO, Hc, Hp, HG⟩
  isplitr [Hs HG]
  · isplitl [Hc]; · iapply (launch_creds (F := F) c); iexact Hc
    isplitl [HO]; · iexact HO
    iexists (ρ c); iexact Hp
  isplitl [Hs]; · iapply (Entails.of_eq (sems_bar (F := F) c)); iexact Hs
  iexact HG

omit [FloatOps F] in
theorem bars (Φ : GSem nD τ sig → sProp 𝕄) : bigSep barCells Φ = bigSep Finset.univ fun c : Dev nD => Φ (bar c) :=
  bigSep_map (s := Finset.univ) barEmb (Φ := Φ)
omit [FloatOps F] in
theorem owns_cells (Φ : GSem nD τ sig → sProp 𝕄) :
    bigSep ownCells Φ = bigSep Finset.univ fun c : Dev nD => bigSep Finset.univ fun k : Bool × TI => Φ ((c : Thread nD τ), osem k) := by
  unfold ownCells
  rw [bigSep_map, bigSep_univ_prod]
  rfl

/-- The ghost state of every device, from the barriers' counters and the launch element. -/
theorem launch :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (around m 0) : sProp 𝕄) := by
  have hper : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(bundle c ∗ (semVal (bar c) 0 ∗ G c)) : sProp 𝕄) := bigSep_mono fun c _ => per_device ρ c
  iintro ⟨H, -⟩
  ihave H := hper $$ H
  ihave H := (Entails.of_eq (bigSep_sep' _ _ _)) $$ H; icases H with ⟨HB, H⟩
  ihave H := (Entails.of_eq (bigSep_sep' _ _ _)) $$ H; icases H with ⟨Hv, HG⟩
  ihave Hu := (Entails.of_eq (bigSep_G (F := F))) $$ HG
  imod (Rounds.fund_launch ER (ringRd (inX m)) cells_disjoint (fun g _ h => h) toks) $$ [Hv Hu] with ⟨%κ, -, #Hinv, #Hr, Hat, Hopen, Htok⟩
  · isplitl [Hv]
    · iapply (Entails.of_eq (bars (F := F) fun g => semVal g 0).symm); iexact Hv
    · iexact Hu
  imodintro
  iapply (bigSep_with_persistent (R := records m κ) (Φ := fun c => iprop(linear c ∗ bundle c)) fun c _ => around_intro m κ c)
  isplitr
  · unfold records invs
    isplitr; · iexact Hinv
    iexact Hr
  iapply (Entails.of_eq (bigSep_sep' _ _ _).symm)
  isplitr [HB]
  · unfold linear
    iapply (Entails.of_eq (bigSep_sep' _ _ _).symm); isplitl [Hat]; · iapply (Entails.of_eq (bars (F := F) fun g => atPos ER g 0 ∅ 0)); iexact Hat
    iapply (Entails.of_eq (bigSep_sep' _ _ _).symm); isplitl [Hopen]; · iapply (Entails.of_eq (owns_cells (F := F) fun g => openTok ER g)); iexact Hopen
    iapply (toks_dealt (F := F))
    iapply (Entails.of_eq (toks_cells (F := F))); iexact Htok
  · iexact HB

/-! ## The run -/

theorem unscoped_bar : ∀ sm : SemLoc sig, sm.isScoped .tc = false → sm = .reg barS := by decide

/-- Every device's share of what the run starts from. -/
def T₀ (c : Dev nD) : sProp 𝕄 := iprop(StableHlo.held (c : Thread nD τ) (Pipeline.ucRefs τ sig) (V0 m c) ∗ around m 0 c)
/-- What every device ends with. -/
def Tₙ (c : Dev nD) : sProp 𝕄 := iprop(StableHlo.held (c : Thread nD τ) (Pipeline.ucRefs τ sig) (lastV m c) ∗ semVal (bar c) 0)

theorem fund : (ownU u₀ : sProp 𝕄)
    ⊢ |={Set.univ}=> iprop(BI.own (EP (initOf (Pipeline.cells cfgs cellOf_inj) (Pipeline.launchToks cfgs cellOf_inj))) ∗ bigSep Finset.univ (G (F := F))) := by
  rw [bigSep_G]
  unfold u₀
  iintro Hu
  ihave H := (ownU_pair _ _) $$ Hu
  icases H with ⟨HP, HX⟩
  imodintro
  isplitl [HP]; · iexact HP
  iexact HX

theorem first :
    iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hbufs (c : Dev nD) : (unscopedBufs c (fun b => m ((c.tc : Thread nD τ).loc b)) : sProp 𝕄)
      = StableHlo.held (c : Thread nD τ) (Pipeline.ucRefs τ sig) (V0 m c) :=
    Pipeline.unscopedBufs_held (Ix := Unit) (Name := ℕ) (U := UU) (Lvl := ℕ) c (V0 m c)
  have hT : (bigSep Finset.univ (T₀ m) : sProp 𝕄) = iprop((bigSep Finset.univ fun c : Dev nD => StableHlo.held (c : Thread nD τ) (Pipeline.ucRefs τ sig) (V0 m c))
      ∗ bigSep Finset.univ (around m 0)) := bigSep_sep' _ _ _
  rw [hT, bigSep_sep', bigSep_congr fun c _ => hbufs c]
  iintro ⟨⟨Hh, H⟩, HL⟩
  imod (launch m ρ) $$ [H HL] with H
  · isplitl [H] <;> iassumption
  imodintro
  isplitl [Hh] <;> iassumption

theorem last (c : Dev nD) (s' : Phys nD τ sig (Elt F)) : iprop(Tₙ m c ∗ SI s')
    ⊢ (|={Set.univ}=> iprop(⌜(∀ b ∈ Pipeline.ucRefs τ sig, s'.mem.mem ((c : Thread nD τ).1, b) = lastV m c b) ∧ s'.mem.sem (bar c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (lastV m c) s') $$ [Hh HSI]
  · isplitl [Hh] <;> iassumption
  icases Hr with ⟨%h, HSI⟩
  imodintro
  isplitr
  · ipureintro
    exact ⟨h, by simpa using hb⟩
  iexact HSI

theorem in_uc (b : Ref sig .tc) (h : ¬ (Proc.devRef (τ := τ) .tc b).isScoped) : Proc.devRef (τ := τ) .tc b ∈ Pipeline.ucRefs τ sig :=
  Finset.mem_filter.mpr ⟨StableHlo.devRef_mem_tcRefs b, h⟩

set_option backward.isDefEq.respectTransparency.types false in
/-- The run: the arguments kept, every device's result the activation of its products, every counter zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v56) = outv (inX m) (inW m) c) ∧ r.2.sem = fun _ => 0) :=
  Pipeline.θ_run_regions_kit_dev_sems (pcfgs (F := F)) adm (pdats m) () cellOf_inj EP defs₀ 𝒱₀ L lv m ρ main
    (segs m 𝒱₀ L lv (around m) () (pdats m) (reg0 m))
    (fun c Q => by
      rewrite [main_chain c, Seg.run_eq_chain,
        show (segs m 𝒱₀ L lv (around m) () (pdats m) (reg0 m) c).map Seg.prog = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide)
    O₀ L_of_ne G u₀ fund (T₀ := T₀ m) (Tₙ := Tₙ m)
    (hch := fun c => ⟨.rfl, reg0_pre m c, (reg0_post m c).trans (by
      unfold around Tₙ
      rw [if_neg (by decide)]
      iintro ⟨Hh, Hb, HO⟩
      isplitr [HO]
      · isplitl [Hh] <;> iassumption
      iexact HO)⟩)
    (hinit := first m ρ)
    (QY := fun c s => (∀ b ∈ Pipeline.ucRefs τ sig, s.mem ((c : Thread nD τ).1, b) = lastV m c b) ∧ s.sem (bar c) = 0)
    (hfin := last m)
    (hQ := fun s h hs => ⟨fun c => ⟨
        ((h c).1 _ (in_uc main_arg0 (by decide))).trans ((lastV_ne m c _ (StableHlo.devRef_ne_of_ne (by decide))).trans (hostV_0 m c)),
        ((h c).1 _ (in_uc main_arg1 (by decide))).trans ((lastV_ne m c _ (StableHlo.devRef_ne_of_ne (by decide))).trans (hostV_1 m c)),
        ((h c).1 _ (in_uc main_v56 (by decide))).trans (lastV_out m c)⟩,
      sem_eq_zero hs fun c sm hsm => by
        obtain rfl := unscoped_bar sm hsm
        exact (h c).2⟩)

end Cert.KernelIdeal.Ring

end
-- ==== Proof.Same.lean ====
/- The kernel and its idealization have one text: the bodies and @main are equal, and so are the runs. -/
module

public import proofs.«01_k».proof.Defs
public import proofs.«01_k».proof.Proof.Gen.Kernel
public import proofs.«01_k».proof.Proof.Init

@[expose] public section

noncomputable section

namespace Cert.Proof

open Idealize.ShloMosaic Idealize.SL.Sem

variable {F : FTy → Type} [FloatOps F]

theorem same_bodies : Cert.KernelIdeal.defs₀ (F := F) = Cert.Kernel.defs₀ (F := F) := by
  unfold Cert.KernelIdeal.defs₀ Cert.Kernel.defs₀
  refine congrArg Defs.onTc ?_
  funext l x
  match l, x with
  | ⟨0, _⟩, (t, s) => rfl

theorem same_defs : Cert.KernelIdeal.defs (F := F) = Cert.Kernel.defs (F := F) :=
  congrArg (Pipeline.defs (Cert.Kernel.pcfgs (F := F))) same_bodies

set_option maxHeartbeats 8000000 in
set_option maxRecDepth 10000 in
theorem same_part0 (d : Dev Cert.Kernel.nD) : Cert.KernelIdeal.main_part0 (F := F) d = Cert.Kernel.main_part0 (F := F) d := rfl

set_option maxHeartbeats 8000000 in
set_option maxRecDepth 10000 in
theorem same_part1 (d : Dev Cert.Kernel.nD) : Cert.KernelIdeal.main_part1 (F := F) d = Cert.Kernel.main_part1 (F := F) d := rfl

theorem same_main : Cert.KernelIdeal.main (F := F) = Cert.Kernel.main (F := F) :=
  funext fun d => by
    unfold Cert.KernelIdeal.main Cert.Kernel.main
    exact congr (congrArg _ (same_part0 d)) (funext fun _ => same_part1 d)

/-- A run of the same program from the same state. -/
theorem same_run {D : Defs Cert.Kernel.nD Cert.Kernel.τ Cert.Kernel.sig (Elt F) (Pipeline.Sig Cert.Kernel.Λ₀ (Fin 1) fun p => (Cert.Kernel.pcfgs (F := F) p).Adm)}
    {P : Dev Cert.Kernel.nD → Prog (TpuEff Cert.Kernel.nD Cert.Kernel.τ Cert.Kernel.sig (Elt F)
      (Pipeline.Sig Cert.Kernel.Λ₀ (Fin 1) fun p => (Cert.Kernel.pcfgs (F := F) p).Adm) .tc) PUnit}
    (hD : D = Cert.Kernel.defs) (hP : P = Cert.Kernel.main) {s : MemSt Cert.Kernel.nD Cert.Kernel.τ Cert.Kernel.sig (Elt F)}
    {Q : PUnit × MemSt Cert.Kernel.nD Cert.Kernel.τ Cert.Kernel.sig (Elt F) → Prop} (h : θ_run D (onTc P) s Q) :
    θ_run Cert.Kernel.defs (onTc (τ := Cert.Kernel.τ) Cert.Kernel.main) s Q := by
  subst hD hP; exact h

/-- The kernel as printed: the ring's run at bit-exact floats. -/
theorem frame_kernel : Cert.quiescent_Kernel := fun m ρ _ =>
  same_run (F := Bits) same_defs same_main
    ((θ_run Cert.KernelIdeal.defs _ _).mono (fun _ h => ⟨fun c => ⟨(h.1 c).1, (h.1 c).2.1⟩, h.2⟩) (Cert.KernelIdeal.Ring.run_main (F := Bits) m ρ))

end Cert.Proof

end
-- ==== Proof.Value.lean ====
/- The values: one element of the ring kernel's block against the same element of a reference's array. -/
module

public import proofs.«01_k».proof.Defs
public import proofs.«01_k».proof.Proof.Init
public import proofs.«01_k».proof.Proof.Gen.ReferenceIdeal.Run
public import proofs.«01_k».proof.Proof.Gen.SiluIdeal.Run
public import Idealize.ShloMosaic.Lib.Pointwise
public import Idealize.ShloMosaic.Lib.Layout

@[expose] public section

set_option maxRecDepth 16384

noncomputable section

namespace Cert.Proof

open Idealize.ShloMosaic Idealize.SL.Sem

/-- The matrix product at row `r` and column `l`. -/
def prodAt (X W : (⟨2, ![1024, 1024]⟩ : Shape).Idx → EReal) (r l : Fin 1024) : EReal :=
  ∑ k : Fin 1024, X (ix2 r k) * W (ix2 k l)

/-- A product slab of the kernel at an element: the product times its logistic. -/
theorem pay_apply (A : FVec Ideal Cert.KernelIdeal.S64x1024 .f32) (B : FVec Ideal Cert.KernelIdeal.S1024x64 .f32)
    (j : Cert.KernelIdeal.S64x64.Idx) :
    Cert.KernelIdeal.Gen.k0_pay1 (F := Ideal) A B j =
      (∑ k : Fin 1024, A (ix2 (j 0) k) * B (ix2 k (j 1))) * Ideal.logistic (∑ k : Fin 1024, A (ix2 (j 0) k) * B (ix2 k (j 1))) := by
  pointwise [Cert.KernelIdeal.Gen.k0_pay1]

/-- The references' product at an element. -/
theorem dot_apply (X W : FVec Ideal Cert.SiluIdeal.S1024x1024 .f32) (j : Cert.SiluIdeal.S1024x1024.Idx) :
    Host.dotGeneral Cert.SiluIdeal.dot_S1024x1024_S1024x1024_S1024x1024_1_0_0_1_n_n none X W j = prodAt X W (j 0) (j 1) := by
  pointwise [prodAt]

/-- What the references compute of a product's element, without the guard. -/
def siluOf (y : EReal) : EReal := Ideal.div y (1 + Ideal.exp (-y))

theorem exp_nonneg (x : EReal) : 0 ≤ Ideal.exp x := by
  induction x with
  | bot => exact le_refl _
  | top => exact le_top
  | coe r => exact EReal.coe_nonneg.2 (Real.exp_pos r).le

/-- The kernel multiplies by the logistic where the references divide: the divisor is at least one. -/
theorem mul_logistic (y : EReal) : y * Ideal.logistic y = siluOf y := by
  have h : (1 : EReal) + Ideal.exp (-y) ≠ 0 := by
    have h1 : (1 : EReal) ≤ 1 + Ideal.exp (-y) := le_add_of_nonneg_right (exp_nonneg (-y))
    exact (lt_of_lt_of_le zero_lt_one h1).ne'
  unfold siluOf Ideal.logistic Ideal.div
  rw [if_neg h, if_neg h, one_mul]

theorem sixty : Ideal.ofBits .f32 0x42700000#32 = ((60 : ℝ) : EReal) := by
  simp [Ideal.ofBits, Ideal.ieee]
  rw [← EReal.coe_mul]
  norm_num

theorem neg_sixty : Ideal.ofBits .f32 0xC2700000#32 = -((60 : ℝ) : EReal) := by
  simp [Ideal.ofBits, Ideal.ieee]
  rw [← EReal.coe_mul]
  norm_num

/-- The clip leaves a product of size at most `a` as it is. -/
theorem clip_idle (a y : EReal) (h : max y (-y) ≤ a) : min a (max (-a) y) = y := by
  have h1 : y ≤ a := (le_max_left _ _).trans h
  have h2 : -a ≤ y := EReal.neg_le.1 ((le_max_right _ _).trans h)
  rw [max_eq_right h2, min_eq_right h1]

/-- The unguarded reference at an element. -/
theorem silu_apply (X W : FVec Ideal Cert.SiluIdeal.S1024x1024 .f32) (j : Cert.SiluIdeal.S1024x1024.Idx) :
    Host.divf (Host.dotGeneral Cert.SiluIdeal.dot_S1024x1024_S1024x1024_S1024x1024_1_0_0_1_n_n none X W)
      (addf (broadcastInDim Cert.SiluIdeal.S1024x1024 ![] Cert.SiluIdeal.Gen.bcast_S_S1024x1024 (constant Cert.SiluIdeal.S_ .f32 0x3F800000#32))
        (Host.exp (Host.negf (Host.dotGeneral Cert.SiluIdeal.dot_S1024x1024_S1024x1024_S1024x1024_1_0_0_1_n_n none X W)))) j
      = siluOf (prodAt X W (j 0) (j 1)) := by
  pointwise [prodAt, siluOf]

/-- An element that the mask selects has a product of size at most sixty. -/
theorem mask_apply (X W : FVec Ideal Cert.On_guard_idle.S1024x1024 .f32) (j : Cert.On_guard_idle.S1024x1024.Idx) [Cert.On_guard_idle.Facts]
    (h : Cert.On_guard_idle.fn (F := Ideal) X W j = 1#1) :
    max (prodAt X W (j 0) (j 1)) (-(prodAt X W (j 0) (j 1))) ≤ ((60 : ℝ) : EReal) := by
  pointwise [Cert.On_guard_idle.fn] at h
  have h' : max (prodAt X W (j 0) (j 1)) (-(prodAt X W (j 0) (j 1))) ≤ Ideal.ofBits .f32 0x42700000#32 := by
    by_contra hn
    have h0 := h.symm.trans (congrArg BitVec.ofBool (decide_eq_false hn))
    exact absurd h0 (by decide)
  exact h'.trans_eq sixty

/-- The reference at an element whose product has size at most sixty. -/
theorem guarded_apply (X W : FVec Ideal Cert.ReferenceIdeal.S1024x1024 .f32) (j : Cert.ReferenceIdeal.S1024x1024.Idx)
    (h : max (prodAt X W (j 0) (j 1)) (-(prodAt X W (j 0) (j 1))) ≤ ((60 : ℝ) : EReal)) :
    Host.divf (Host.dotGeneral Cert.ReferenceIdeal.dot_S1024x1024_S1024x1024_S1024x1024_1_0_0_1_n_n none X W)
      (addf (broadcastInDim Cert.ReferenceIdeal.S1024x1024 ![] Cert.ReferenceIdeal.Gen.bcast_S_S1024x1024 (constant Cert.ReferenceIdeal.S_ .f32 0x3F800000#32))
        (Host.exp (Host.negf (minimumf
          (broadcastInDim Cert.ReferenceIdeal.S1024x1024 ![] Cert.ReferenceIdeal.Gen.bcast_S_S1024x1024 (id (constant Cert.ReferenceIdeal.S_ .f32 0x42700000#32)))
          (maximumf
            (broadcastInDim Cert.ReferenceIdeal.S1024x1024 ![] Cert.ReferenceIdeal.Gen.bcast_S_S1024x1024 (id (constant Cert.ReferenceIdeal.S_ .f32 0xC2700000#32)))
            (Host.dotGeneral Cert.ReferenceIdeal.dot_S1024x1024_S1024x1024_S1024x1024_1_0_0_1_n_n none X W)))))) j
      = siluOf (prodAt X W (j 0) (j 1)) := by
  have e : min (Ideal.ofBits .f32 0x42700000#32) (max (Ideal.ofBits .f32 0xC2700000#32) (prodAt X W (j 0) (j 1))) =
      prodAt X W (j 0) (j 1) := by
    rw [sixty, neg_sixty]; exact clip_idle _ _ h
  have e' := congrArg (fun z => Ideal.div (prodAt X W (j 0) (j 1)) (1 + Ideal.exp (-z))) e
  pointwise [prodAt, siluOf]
  exact e'

/-- The block a device ends with, at an element: the references' formula of the whole arrays' product there. -/
theorem outv_apply (xs : Dev Cert.KernelIdeal.nD → FVec Ideal Cert.KernelIdeal.S64x1024 .f32)
    (ws : Dev Cert.KernelIdeal.nD → FVec Ideal Cert.KernelIdeal.S1024x64 .f32)
    (X W : (⟨2, ![1024, 1024]⟩ : Shape).Idx → EReal)
    (hx : ∀ c, xs c = Layout.block ⟨2, ![64, 1024]⟩ ⟨2, ![1024, 1024]⟩ 0 16 c X)
    (hw : ∀ c, ws c = Layout.block ⟨2, ![1024, 64]⟩ ⟨2, ![1024, 1024]⟩ 1 16 c W)
    (c : Dev Cert.KernelIdeal.nD) (i : (⟨2, ![1024, 64]⟩ : Shape).Idx) (h : Layout.Tiles ⟨2, ![1024, 64]⟩ ⟨2, ![1024, 1024]⟩ 1 16) :
    Cert.KernelIdeal.Ring.outv (F := Ideal) xs ws c i = siluOf (prodAt X W (h.idx c i 0) (h.idx c i 1)) := by
  unfold Cert.KernelIdeal.Ring.outv
  rw [pay_apply, mul_logistic]
  refine congrArg siluOf (Finset.sum_congr rfl fun k _ => ?_)
  rw [hx, hw, Layout.block_apply, Layout.block_apply]
  refine congrArg₂ (· * ·) (congrArg X ?_) (congrArg W ?_)
  · funext b
    refine Fin.ext ?_
    match b with
    | ⟨0, _⟩ => exact Nat.div_add_mod' (i 0).val 64
    | ⟨1, _⟩ => rfl
  · funext b
    refine Fin.ext ?_
    match b with
    | ⟨0, _⟩ => rfl
    | ⟨1, _⟩ => rfl

end Cert.Proof

end
-- ==== Proof.lean ====
/- The claims of the certificate, put together from the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.SiluIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The idealized kernel: the ring's run at extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Ring.run_main (F := Ideal) m ρ)

/-- The reference: its operations' run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The unguarded reference, likewise. -/
theorem frame_silu : Cert.quiescent_SiluIdeal := fun m ρ _ =>
  (θ_run Cert.SiluIdeal.defs _ _).mono (fun r h => ⟨fun c => (h c).2, sem_eq_zero_of_no_sems (by decide) r.2⟩)
    (Cert.SiluIdeal.Value.run (F := Ideal) m ρ)

/-- The side conditions of the mask. -/
theorem mask_facts : Cert.On_guard_idle.Facts where
  bcast_S_S1024x1024 := by decide
  dot_S1024x1024_S1024x1024_S1024x1024_1_0_0_1_n_n_wf := by decide

/-- Where the clip leaves the product as it is, the ring kernel's blocks are the reference's. -/
theorem value_guarded : Cert.algebraic_KernelIdeal_ReferenceIdeal_on_guard_idle (hOn_guard_idle := mask_facts) := by
  intro m ρ m' ρ' _ hin
  haveI := mask_facts
  refine ⟨_, (θ_run Cert.KernelIdeal.defs _ _).mono (fun r h c => ?_) (Cert.KernelIdeal.Ring.run_main (F := Ideal) m ρ),
    (θ_run Cert.ReferenceIdeal.defs _ _).mono (fun r h => ⟨fun i _ => congrFun (h 0).1 i, (h 0).2⟩)
      (Cert.ReferenceIdeal.Value.run (F := Ideal) m' ρ')⟩
  obtain ⟨h0, h1, h2⟩ := h.1 c
  refine ⟨fun i hi => ?_, h0, h1⟩
  rw [Layout.block_apply] at hi
  rw [h2, Layout.block_apply]
  exact (outv_apply _ _ _ _ (fun c => (hin c).1) (fun c => (hin c).2) c i _).trans
    (guarded_apply _ _ _ (mask_apply _ _ _ hi)).symm

/-- Everywhere, the ring kernel's blocks are the unguarded reference's. -/
theorem value_silu : Cert.algebraic_KernelIdeal_SiluIdeal := by
  intro m ρ m' ρ' _ hin
  refine ⟨_, (θ_run Cert.KernelIdeal.defs _ _).mono (fun r h c => ?_) (Cert.KernelIdeal.Ring.run_main (F := Ideal) m ρ),
    (θ_run Cert.SiluIdeal.defs _ _).mono (fun r h => h 0) (Cert.SiluIdeal.Value.run (F := Ideal) m' ρ')⟩
  obtain ⟨h0, h1, h2⟩ := h.1 c
  refine ⟨?_, h0, h1⟩
  rw [h2]
  funext i
  rw [Layout.block_apply]
  exact (outv_apply _ _ _ _ (fun c => (hin c).1) (fun c => (hin c).2) c i _).trans (silu_apply _ _ _).symm

theorem claim : Cert.Claim := ⟨Cert.Kernel.Gen.facts, Cert.KernelIdeal.Gen.facts, Cert.ReferenceIdeal.Gen.facts, Cert.SiluIdeal.Gen.facts, mask_facts,
  frame_kernel, frame_ideal, frame_reference, frame_silu, trivial, value_guarded, value_silu⟩

end Cert.Proof

end
